-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_agent [hPre_one_agent : Cert.Pre_one_agent.Facts] (m : (ℓ : Loc Cert.KernelIdeal.nD Cert.KernelIdeal.τ Cert.KernelIdeal.sig) → Buf (Elt Ideal) ℓ) : Prop :=
  ∀ c : Dev Cert.KernelIdeal.nD,
    (Cert.Pre_one_agent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_agent [hPre_one_agent : Cert.Pre_one_agent.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_agent.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_agent [hKernelIdeal : Cert.KernelIdeal.Facts] [hPre_one_agent : Cert.Pre_one_agent.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_agent m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_agent [hReferenceIdeal : Cert.ReferenceIdeal.Facts] [hPre_one_agent : Cert.Pre_one_agent.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_agent m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_one_agent [hKernelIdeal : Cert.KernelIdeal.Facts] [hReferenceIdeal : Cert.ReferenceIdeal.Facts] [hPre_one_agent : Cert.Pre_one_agent.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_agent m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_agent : Cert.Pre_one_agent.Facts),
    quiescent_Kernel (hKernel := hKernel)
    ∧ quiescent_KernelIdeal (hKernelIdeal := hKernelIdeal)
    ∧ quiescent_KernelIdeal_pre_one_agent (hKernelIdeal := hKernelIdeal) (hPre_one_agent := hPre_one_agent)
    ∧ quiescent_ReferenceIdeal (hReferenceIdeal := hReferenceIdeal)
    ∧ quiescent_ReferenceIdeal_pre_one_agent (hReferenceIdeal := hReferenceIdeal) (hPre_one_agent := hPre_one_agent)
    ∧ preserves_Kernel_KernelIdeal
    ∧ algebraic_KernelIdeal_ReferenceIdeal_pre_one_agent (hKernelIdeal := hKernelIdeal) (hReferenceIdeal := hReferenceIdeal) (hPre_one_agent := hPre_one_agent)
-- ==== Pre_one_agent.lean ====
abbrev S16384x32x32x1 : Shape := ⟨4, ![16384, 32, 32, 1]⟩
abbrev S16384x4096 : Shape := ⟨2, ![16384, 4096]⟩
abbrev S_ : Shape := ⟨0, ![]⟩
abbrev S16384 : Shape := ⟨1, ![16384]⟩

class Facts : Prop where
  natLt_1_32 : 1 < 32
  reducesTo_S16384x4096_S16384_d1 : S16384x4096.ReducesTo [1] S16384
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384x32x32x1 32) (main_arg1 : IVec S16384x4096 1) : IVec S_ 1 :=
  let main_v0 : IVec S16384x4096 32 := (extui 32 · natLt_1_32) main_arg1
  let main_c : IVec S_ 32 := constantI S_ 32 0#32
  let main_v1 : IVec S16384 32 := (fun x v => Host.reduce IntOp.addi x v reducesTo_S16384x4096_S16384_d1 h_S_) main_v0 main_c
  let main_c_0 : IVec S_ 32 := constantI S_ 32 1#32
  let main_v2 : IVec S16384 32 := broadcastInDim S16384 ![] bcast_S_S16384 main_c_0
  let main_v3 : IVec S16384 1 := cmpi .eq main_v1 main_v2
  let main_c_1 : IVec S_ 1 := constantI S_ 1 1#1
  let main_v4 : IVec S_ 1 := (fun x v => Host.reduce IntOp.andi x v reducesTo_S16384_S_d0 h_S_) main_v3 main_c_1
  main_v4
-- ==== Kernel.lean ====
abbrev S16384x32x32x1 : Shape := ⟨4, ![16384, 32, 32, 1]⟩
abbrev S16384x4096 : Shape := ⟨2, ![16384, 4096]⟩
abbrev S32x32x1x16384 : Shape := ⟨4, ![32, 32, 1, 16384]⟩
abbrev S1024x4x32x128 : Shape := ⟨4, ![1024, 4, 32, 128]⟩
abbrev S16x8x128 : Shape := ⟨3, ![16, 8, 128]⟩
abbrev S1024x4096 : Shape := ⟨2, ![1024, 4096]⟩
abbrev S1x8x128 : Shape := ⟨3, ![1, 8, 128]⟩
abbrev S8x128x4096 : Shape := ⟨3, ![8, 128, 4096]⟩
abbrev S8x128 : Shape := ⟨2, ![8, 128]⟩
abbrev S4x32x128 : Shape := ⟨3, ![4, 32, 128]⟩
abbrev S64x32x128x128 : Shape := ⟨4, ![64, 32, 128, 128]⟩
abbrev S1x32x128 : Shape := ⟨3, ![1, 32, 128]⟩
abbrev S512x1x32x128 : Shape := ⟨4, ![512, 1, 32, 128]⟩
abbrev S32x32x32x128 : Shape := ⟨4, ![32, 32, 32, 128]⟩
abbrev S512x32x128 : Shape := ⟨3, ![512, 32, 128]⟩
abbrev S512x2x32x128 : Shape := ⟨4, ![512, 2, 32, 128]⟩
abbrev S16x32x2x32x128 : Shape := ⟨5, ![16, 32, 2, 32, 128]⟩
abbrev S16x2x32x32x128 : Shape := ⟨5, ![16, 2, 32, 32, 128]⟩
abbrev S32x2x32x128x128 : Shape := ⟨5, ![32, 2, 32, 128, 128]⟩
abbrev S128x128x32x32x2 : Shape := ⟨5, ![128, 128, 32, 32, 2]⟩
abbrev S16384x32x32x2 : Shape := ⟨4, ![16384, 32, 32, 2]⟩

abbrev nBuf : Space → Nat
  | .hbm => 12
  | .vmem => 10
  | .smem => 0
  | _ => 0

abbrev bufTy : (tb : Table) → Fin (tcTables nBuf tb) → BufTy
  | .hbm, ⟨0, _⟩ => ⟨S16384x32x32x1, .i32⟩
  | .hbm, ⟨1, _⟩ => ⟨S16384x4096, .i1⟩
  | .hbm, ⟨2, _⟩ => ⟨S32x32x1x16384, .i32⟩
  | .hbm, ⟨3, _⟩ => ⟨S1024x4x32x128, .i32⟩
  | .hbm, ⟨4, _⟩ => ⟨S16384x4096, .i8⟩
  | .hbm, ⟨5, _⟩ => ⟨S16384x4096, .i8⟩
  | .hbm, ⟨6, _⟩ => ⟨S16x8x128, .i32⟩
  | .hbm, ⟨7, _⟩ => ⟨S4x32x128, .i32⟩
  | .hbm, ⟨8, _⟩ => ⟨S64x32x128x128, .i8⟩
  | .hbm, ⟨9, _⟩ => ⟨S32x2x32x128x128, .i8⟩
  | .hbm, ⟨10, _⟩ => ⟨S128x128x32x32x2, .i8⟩
  | .hbm, ⟨11, _⟩ => ⟨S16384x32x32x2, .i8⟩
  | .local _ .vmem, ⟨0, _⟩ => ⟨S1024x4096, .i8⟩
  | .local _ .vmem, ⟨1, _⟩ => ⟨S1024x4096, .i8⟩
  | .local _ .vmem, ⟨2, _⟩ => ⟨S1x8x128, .i32⟩
  | .local _ .vmem, ⟨3, _⟩ => ⟨S1x8x128, .i32⟩
  | .local _ .vmem, ⟨4, _⟩ => ⟨S1x32x128, .i32⟩
  | .local _ .vmem, ⟨5, _⟩ => ⟨S1x32x128, .i32⟩
  | .local _ .vmem, ⟨6, _⟩ => ⟨S512x1x32x128, .i32⟩
  | .local _ .vmem, ⟨7, _⟩ => ⟨S512x1x32x128, .i32⟩
  | .local _ .vmem, ⟨8, _⟩ => ⟨S32x32x32x128, .i8⟩
  | .local _ .vmem, ⟨9, _⟩ => ⟨S32x32x32x128, .i8⟩
  | _, _ => ⟨S16384x32x32x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage1_0 : Fin 2 → Memref sig .tc .vmem S1x32x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1x32x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x32x32x128 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S16384x32x32x1 : Shape := ⟨4, ![16384, 32, 32, 1]⟩
abbrev S16384x4096 : Shape := ⟨2, ![16384, 4096]⟩
abbrev S16384x32x32x4 : Shape := ⟨4, ![16384, 32, 32, 4]⟩
abbrev S_ : Shape := ⟨0, ![]⟩
abbrev S16384x32x32 : Shape := ⟨3, ![16384, 32, 32]⟩
abbrev S16384x4 : Shape := ⟨2, ![16384, 4]⟩
abbrev S16384 : Shape := ⟨1, ![16384]⟩
abbrev S16384x32x32x2 : Shape := ⟨4, ![16384, 32, 32, 2]⟩
abbrev S16384x1x1 : Shape := ⟨3, ![16384, 1, 1]⟩
abbrev S16384x1024 : Shape := ⟨2, ![16384, 1024]⟩
abbrev S16384x1 : Shape := ⟨2, ![16384, 1]⟩
abbrev S16384x2 : Shape := ⟨2, ![16384, 2]⟩
abbrev S16384x1x1x2 : Shape := ⟨4, ![16384, 1, 1, 2]⟩

abbrev nBuf : Space → Nat
  | .hbm => 137
  | .vmem => 0
  | .smem => 0
  | _ => 0

abbrev hbmTy0_0 (i : Nat) : BufTy := match i % 128 with
  | 0 => ⟨S16384x32x32x1, .i32⟩
  | 1 => ⟨S16384x4096, .i1⟩
  | 2 => ⟨S16384x32x32x4, .i1⟩
  | 3 => ⟨S_, .i1⟩
  | 4 => ⟨S16384x32x32, .i1⟩
  | 5 => ⟨S16384x32x32x4, .i32⟩
  | 6 => ⟨S_, .i32⟩
  | 7 => ⟨S16384x4, .i32⟩
  | 8 => ⟨S16384x4, .i32⟩
  | 9 => ⟨S_, .i32⟩
  | 10 => ⟨S_, .i32⟩
  | 11 => ⟨S16384, .i32⟩
  | 12 => ⟨S16384, .i32⟩
  | 13 => ⟨S_, .i32⟩
  | 14 => ⟨S16384x32x32x1, .i32⟩
  | 15 => ⟨S16384x32x32x2, .i32⟩
  | 16 => ⟨S16384x32x32x1, .i32⟩
  | 17 => ⟨S16384x32x32, .i32⟩
  | 18 => ⟨S_, .i32⟩
  | 19 => ⟨S16384x32x32, .i32⟩
  | 20 => ⟨S16384x32x32, .i1⟩
  | 21 => ⟨S_, .i32⟩
  | 22 => ⟨S16384x32x32, .i32⟩
  | 23 => ⟨S16384x32x32, .i1⟩
  | 24 => ⟨S_, .i32⟩
  | 25 => ⟨S16384x32x32, .i32⟩
  | 26 => ⟨S16384x32x32, .i1⟩
  | 27 => ⟨S_, .i32⟩
  | 28 => ⟨S16384x32x32, .i32⟩
  | 29 => ⟨S16384x32x32, .i1⟩
  | 30 => ⟨S16384x32x32x1, .i32⟩
  | 31 => ⟨S16384x32x32, .i32⟩
  | 32 => ⟨S_, .i32⟩
  | 33 => ⟨S_, .i32⟩
  | 34 => ⟨S16384x32x32, .i32⟩
  | 35 => ⟨S16384x32x32, .i32⟩
  | 36 => ⟨S_, .i32⟩
  | 37 => ⟨S_, .i32⟩
  | 38 => ⟨S16384x32x32, .i32⟩
  | 39 => ⟨S16384x32x32, .i32⟩
  | 40 => ⟨S_, .i32⟩
  | 41 => ⟨S_, .i32⟩
  | 42 => ⟨S16384x32x32, .i32⟩
  | 43 => ⟨S16384x32x32, .i32⟩
  | 44 => ⟨S_, .i32⟩
  | 45 => ⟨S_, .i32⟩
  | 46 => ⟨S16384x32x32, .i32⟩
  | 47 => ⟨S16384x32x32, .i32⟩
  | 48 => ⟨S_, .i32⟩
  | 49 => ⟨S16384, .i32⟩
  | 50 => ⟨S16384, .i1⟩
  | 51 => ⟨S16384x1x1, .i1⟩
  | 52 => ⟨S16384x32x32, .i1⟩
  | 53 => ⟨S16384x32x32, .i1⟩
  | 54 => ⟨S_, .i32⟩
  | 55 => ⟨S_, .i32⟩
  | 56 => ⟨S16384x32x32, .i32⟩
  | 57 => ⟨S16384x32x32, .i32⟩
  | 58 => ⟨S16384x32x32, .i1⟩
  | 59 => ⟨S16384x32x32, .i1⟩
  | 60 => ⟨S_, .i32⟩
  | 61 => ⟨S_, .i32⟩
  | 62 => ⟨S16384x32x32, .i32⟩
  | 63 => ⟨S16384x32x32, .i32⟩
  | 64 => ⟨S_, .i32⟩
  | 65 => ⟨S16384, .i32⟩
  | 66 => ⟨S16384, .i1⟩
  | 67 => ⟨S16384x1x1, .i1⟩
  | 68 => ⟨S16384x32x32, .i1⟩
  | 69 => ⟨S16384x32x32, .i1⟩
  | 70 => ⟨S_, .i32⟩
  | 71 => ⟨S_, .i32⟩
  | 72 => ⟨S16384x32x32, .i32⟩
  | 73 => ⟨S16384x32x32, .i32⟩
  | 74 => ⟨S_, .i32⟩
  | 75 => ⟨S16384, .i32⟩
  | 76 => ⟨S16384, .i1⟩
  | 77 => ⟨S16384x1x1, .i1⟩
  | 78 => ⟨S16384x32x32, .i1⟩
  | 79 => ⟨S16384x32x32, .i1⟩
  | 80 => ⟨S_, .i32⟩
  | 81 => ⟨S_, .i32⟩
  | 82 => ⟨S16384x32x32, .i32⟩
  | 83 => ⟨S16384x32x32, .i32⟩
  | 84 => ⟨S_, .i32⟩
  | 85 => ⟨S16384, .i32⟩
  | 86 => ⟨S16384, .i1⟩
  | 87 => ⟨S16384x1x1, .i1⟩
  | 88 => ⟨S_, .i32⟩
  | 89 => ⟨S16384, .i32⟩
  | 90 => ⟨S16384x1024, .i1⟩
  | 91 => ⟨S16384x1024, .i1⟩
  | 92 => ⟨S16384x1024, .i1⟩
  | 93 => ⟨S_, .i1⟩
  | 94 => ⟨S16384, .i1⟩
  | 95 => ⟨S_, .i32⟩
  | 96 => ⟨S_, .i32⟩
  | 97 => ⟨S16384, .i32⟩
  | 98 => ⟨S16384, .i32⟩
  | 99 => ⟨S16384x1024, .i1⟩
  | 100 => ⟨S16384x1024, .i1⟩
  | 101 => ⟨S_, .i1⟩
  | 102 => ⟨S16384, .i1⟩
  | 103 => ⟨S_, .i32⟩
  | 104 => ⟨S_, .i32⟩
  | 105 => ⟨S16384, .i32⟩
  | 106 => ⟨S16384, .i32⟩
  | 107 => ⟨S16384x1024, .i1⟩
  | 108 => ⟨S16384x1024, .i1⟩
  | 109 => ⟨S_, .i1⟩
  | 110 => ⟨S16384, .i1⟩
  | 111 => ⟨S_, .i32⟩
  | 112 => ⟨S_, .i32⟩
  | 113 => ⟨S16384, .i32⟩
  | 114 => ⟨S16384, .i32⟩
  | 115 => ⟨S16384x1024, .i1⟩
  | 116 => ⟨S16384x1024, .i1⟩
  | 117 => ⟨S_, .i1⟩
  | 118 => ⟨S16384, .i1⟩
  | 119 => ⟨S_, .i32⟩
  | 120 => ⟨S_, .i32⟩
  | 121 => ⟨S16384, .i32⟩
  | 122 => ⟨S16384, .i32⟩
  | 123 => ⟨S_, .i32⟩
  | 124 => ⟨S16384, .i32⟩
  | 125 => ⟨S16384x1, .i32⟩
  | 126 => ⟨S16384x1, .i32⟩
  | 127 => ⟨S16384x2, .i32⟩
  | _ => ⟨S16384x32x32x1, .i32⟩

abbrev hbmTy0_1 (i : Nat) : BufTy := match i % 128 with
  | 0 => ⟨S16384x32x32x1, .i32⟩
  | 1 => ⟨S16384x32x32x1, .i32⟩
  | 2 => ⟨S16384x32x32x2, .i32⟩
  | 3 => ⟨S16384x32x32x1, .i1⟩
  | 4 => ⟨S16384x1x1x2, .i32⟩
  | 5 => ⟨S16384x32x32x2, .i1⟩
  | 6 => ⟨S16384x32x32x2, .i32⟩
  | 7 => ⟨S16384x32x32x2, .i32⟩
  | 8 => ⟨S16384x32x32x2, .i8⟩
  | _ => ⟨S16384x32x32x1, .i32⟩

abbrev hbmTy (i : Nat) : BufTy := match i / 128 with
  | 0 => hbmTy0_0 i
  | 1 => hbmTy0_1 i
  | _ => ⟨S16384x32x32x1, .i32⟩

abbrev bufTy : (tb : Table) → Fin (tcTables nBuf tb) → BufTy
  | .hbm, ⟨i, _⟩ => hbmTy i
  | _, _ => ⟨S16384x32x32x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_call0_v0 : Ref sig .tc := ⟨.hbm, 8, rfl⟩
abbrev main_call0_c : Ref sig .tc := ⟨.hbm, 9, rfl⟩
abbrev main_call0_c_0 : Ref sig .tc := ⟨.hbm, 10, rfl⟩
abbrev main_call0_v1_0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_c_7 : Ref sig .tc := ⟨.hbm, 36, rfl⟩
abbrev main_call2_v0 : Ref sig .tc := ⟨.hbm, 37, rfl⟩
abbrev main_call2_v1 : Ref sig .tc := ⟨.hbm, 38, rfl⟩
abbrev main_v20 : Ref sig .tc := ⟨.hbm, 39, rfl⟩
abbrev main_c_8 : Ref sig .tc := ⟨.hbm, 40, rfl⟩
abbrev main_call3_v0 : Ref sig .tc := ⟨.hbm, 41, rfl⟩
abbrev main_call3_v1 : Ref sig .tc := ⟨.hbm, 42, rfl⟩
abbrev main_v21 : Ref sig .tc := ⟨.hbm, 43, rfl⟩
abbrev main_c_9 : Ref sig .tc := ⟨.hbm, 44, rfl⟩
abbrev main_call4_v0 : Ref sig .tc := ⟨.hbm, 45, rfl⟩
abbrev main_call4_v1 : Ref sig .tc := ⟨.hbm, 46, rfl⟩
abbrev main_v22 : Ref sig .tc := ⟨.hbm, 47, rfl⟩
abbrev main_c_10 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_11 : Ref sig .tc := ⟨.hbm, 54, rfl⟩
abbrev main_call5_v0 : Ref sig .tc := ⟨.hbm, 55, rfl⟩
abbrev main_call5_v1 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_12 : Ref sig .tc := ⟨.hbm, 60, rfl⟩
abbrev main_call6_v0 : Ref sig .tc := ⟨.hbm, 61, rfl⟩
abbrev main_call6_v1 : Ref sig .tc := ⟨.hbm, 62, rfl⟩
abbrev main_v31 : Ref sig .tc := ⟨.hbm, 63, rfl⟩
abbrev main_c_13 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_14 : Ref sig .tc := ⟨.hbm, 70, rfl⟩
abbrev main_call7_v0 : Ref sig .tc := ⟨.hbm, 71, rfl⟩
abbrev main_call7_v1 : Ref sig .tc := ⟨.hbm, 72, rfl⟩
abbrev main_v37 : Ref sig .tc := ⟨.hbm, 73, rfl⟩
abbrev main_c_15 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c_16 : Ref sig .tc := ⟨.hbm, 80, rfl⟩
abbrev main_call8_v0 : Ref sig .tc := ⟨.hbm, 81, rfl⟩
abbrev main_call8_v1 : Ref sig .tc := ⟨.hbm, 82, rfl⟩
abbrev main_v43 : Ref sig .tc := ⟨.hbm, 83, rfl⟩
abbrev main_c_17 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_18 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_19 : Ref sig .tc := ⟨.hbm, 93, rfl⟩
abbrev main_v51 : Ref sig .tc := ⟨.hbm, 94, rfl⟩
abbrev main_c_20 : Ref sig .tc := ⟨.hbm, 95, rfl⟩
abbrev main_call9_v0 : Ref sig .tc := ⟨.hbm, 96, rfl⟩
abbrev main_call9_v1 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_21 : Ref sig .tc := ⟨.hbm, 101, rfl⟩
abbrev main_v55 : Ref sig .tc := ⟨.hbm, 102, rfl⟩
abbrev main_c_22 : Ref sig .tc := ⟨.hbm, 103, rfl⟩
abbrev main_call10_v0 : Ref sig .tc := ⟨.hbm, 104, rfl⟩
abbrev main_call10_v1 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_23 : Ref sig .tc := ⟨.hbm, 109, rfl⟩
abbrev main_v59 : Ref sig .tc := ⟨.hbm, 110, rfl⟩
abbrev main_c_24 : Ref sig .tc := ⟨.hbm, 111, rfl⟩
abbrev main_call11_v0 : Ref sig .tc := ⟨.hbm, 112, rfl⟩
abbrev main_call11_v1 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_c_25 : Ref sig .tc := ⟨.hbm, 117, rfl⟩
abbrev main_v63 : Ref sig .tc := ⟨.hbm, 118, rfl⟩
abbrev main_c_26 : Ref sig .tc := ⟨.hbm, 119, rfl⟩
abbrev main_call12_v0 : Ref sig .tc := ⟨.hbm, 120, rfl⟩
abbrev main_call12_v1 : Ref sig .tc := ⟨.hbm, 121, rfl⟩
abbrev main_v64 : Ref sig .tc := ⟨.hbm, 122, rfl⟩
abbrev main_c_27 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_call13_v0 : Ref sig .tc := ⟨.hbm, 133, rfl⟩
abbrev main_call13_v1 : Ref sig .tc := ⟨.hbm, 134, rfl⟩
abbrev main_v74 : Ref sig .tc := ⟨.hbm, 135, rfl⟩
abbrev main_v75 : Ref sig .tc := ⟨.hbm, 136, rfl⟩

abbrev nD : Nat := 1
abbrev τ : Topo := Topo.v7x

variable {F : FTy → Type} [FloatOps F]
-- ==== Proof.KernelRun.lean ====
/-
  The run of the kernel program with its result read: from any memory with zero counters every execution of
  @main terminates with the result array at the contents the program's last boundary gives it (`W5`: the host
  operations and the two launches folded over the launch memory) and with the arguments unchanged.
-/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel program ends with the result array as the last boundary has it and with
    both arguments as launched. -/
theorem run : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v9 (by decide)),
       (h c _ (mem_uc main_arg0 (by decide))).trans (W5_main_arg0 m ρ c),
       (h c _ (mem_uc main_arg1 (by decide))).trans (W5_main_arg1 m ρ c)⟩)

end Cert.KernelIdeal.Value

end
-- ==== Proof.OneHot.lean ====
/-
  Facts about one agent per batch element, free of the programs: folds that meet one element other than the
  operation's neutral one; the precondition read as "one set entry in each row of the mask"; and the words that
  name the agent's cell and direction.
-/
module

public import proofs.«01_k».proof.Proof.Gen.Pre_one_agent
public import Idealize.ShloMosaic.Lib.ReduceAll
public import Idealize.ShloMosaic.Lib.ValueIdxCore
public import Idealize.ShloMosaic.Lib.StableHlo.Predicate

@[expose] public section

noncomputable section

namespace Cert.Spot

open Idealize.ShloMosaic Idealize.ShloMosaic.ValueIdx

section Folds

variable {ι α : Type} (op : α → α → α) [Std.Commutative op] [Std.Associative op]

/-- A fold that meets nothing but the neutral element gives the neutral element. -/
theorem fold_none (e : α) (he : op e e = e) (s : Finset ι) (f : ι → α) (h : ∀ k ∈ s, f k = e) : s.fold op e f = e := by
  classical
  induction s using Finset.induction_on with
  | empty => rfl
  | insert a s ha ih =>
    rw [Finset.fold_insert ha, h a (Finset.mem_insert_self _ _), ih fun k hk => h k (Finset.mem_insert_of_mem hk), he]

/-- A fold that meets one element other than the neutral one gives that element. -/
theorem fold_one (e : α) (he : ∀ x, op x e = x) (s : Finset ι) (f : ι → α) (p : ι) (hp : p ∈ s)
    (h : ∀ k ∈ s, k ≠ p → f k = e) : s.fold op e f = f p := by
  classical
  rw [← Finset.insert_erase hp, Finset.fold_insert (Finset.notMem_erase _ _),
    fold_none op e (he e) _ f fun k hk => h k (Finset.mem_of_mem_erase hk) (Finset.ne_of_mem_erase hk), he]

end Folds

/-- Row `b` of a mask has one entry set, the one at `p`. -/
def Agent (a : IVec ⟨2, ![16384, 4096]⟩ 1) (b : Fin 16384) (p : Fin 4096) : Prop :=
  ∀ k : Fin 4096, a (ix2 b k) = if k = p then 1#1 else 0#1

/-- The precondition gives every row of the mask its one set entry. -/
theorem exists_agent {F : FTy → Type} [FloatOps F] (l : IVec ⟨4, ![16384, 32, 32, 1]⟩ 32)
    (a : IVec ⟨2, ![16384, 4096]⟩ 1) (h : Cert.Pre_one_agent.fn (F := F) l a = fun _ => 1#1) (b : Fin 16384) :
    ∃ p, Agent a b p := by
  have h1 := congrFun h ix0
  unfold Cert.Pre_one_agent.fn at h1
  have : Subsingleton (Shape.Idx ⟨0, ![]⟩) := ⟨fun x y => funext fun d => d.elim0⟩
  have h2 := Host.reduce_andi_all _ _ _ _ _ h1 (ix1 b)
  have h3 := congrArg BitVec.toNat (StableHlo.Predicate.cmpi_eq_iff.1 h2)
  have h4 := (StableHlo.Predicate.toNat_reduce_count_cols (by norm_num) a _ _ _ (ix1 b)).symm.trans h3
  obtain ⟨p, hp⟩ := Finset.card_eq_one.1 (h4.trans (show BitVec.toNat _ = 1 from rfl))
  refine ⟨p, fun k => ?_⟩
  have hk : a (ix2 b k) = 1#1 ↔ k = p := by
    have := Finset.ext_iff.1 hp k
    rw [Finset.mem_filter, Finset.mem_singleton] at this
    exact ⟨fun e => this.1 ⟨Finset.mem_univ _, e⟩, fun e => (this.2 e).2⟩
  by_cases e : k = p
  · rw [if_pos e, hk.2 e]
  · rw [if_neg e]; exact eq_zero_of_ne_one fun h => e (hk.1 h)

end Cert.Spot

end
-- ==== Proof.PosBlock.lean ====
/-
  The first launch: what one block's payload holds, and what the array of positions holds after the run.
-/
module

public import proofs.«01_k».proof.Proof.OneHot
public import proofs.«01_k».proof.Proof.Gen.KernelIdeal.Frame
public import Idealize.ShloMosaic.Lib.Pipeline.Value
public import Idealize.ShloMosaic.Lib.Pipeline.ValueKit

@[expose] public section

noncomputable section

namespace Cert.KernelIdeal.Block

open Idealize.ShloMosaic hiding ix0 ix1 ix2 ix3 ix4 ix5 eq_ix3 eq_ix4
open Cert.KernelIdeal Cert.KernelIdeal.Gen Idealize.ShloMosaic.TcCoe Idealize.ShloMosaic.ValueIdx Cert.Spot

variable {F : FTy → Type} [FloatOps F]

/-- The block of widened mask rows, folded to eight times 128 rows, at an index. -/
theorem rows_apply (x : IVec S1024x4096 8) (r : Fin 8) (q : Fin 128) (k : Fin 4096) (z : Fin 1024)
    (hz : z.val = r.val * 128 + q.val) :
    shapeCast S8x128x4096 (shapeCast S1024x4096 x shapeCasts_S1024x4096_S1024x4096)
      shapeCasts_S1024x4096_S8x128x4096 (ix3 r q k) = x (ix2 z k) := by
  rw [shapeCast_self]
  refine shapeCast_apply x _ _ _ ?_
  rewrite [Shape.rowMajor_val_two, Shape.rowMajor_val_three]
  show z.val * 4096 + k.val = (r.val * 128 + q.val) * 4096 + k.val
  rw [hz]

/-- The payload of a block: where the mask row has its one entry at `p`, the row's place holds the word `p`. -/
theorem pos_apply (x : IVec S1024x4096 8) (r : Fin 8) (q : Fin 128) (z : Fin 1024)
    (hz : z.val = r.val * 128 + q.val) (p : Fin 4096)
    (h : ∀ k : Fin 4096, x (ix2 z k) = if k = p then 1#8 else 0#8) :
    k0_pay1 (F := F) x (ix3 (0 : Fin 1) r q) = BitVec.ofNat 32 p.val := by
  unfold k0_pay1
  refine Eq.trans (shapeCast_apply _ _ _ (ix2 r q) ?_) ?_
  · rewrite [Shape.rowMajor_val_two, Shape.rowMajor_val_three]
    show r.val * 128 + q.val = (0 * 8 + r.val) * 128 + q.val
    omega
  have hk : ∀ i : S8x128x4096.Idx, reduces_S8x128x4096_S8x128.drop i = ix2 r q → ∃ k : Fin 4096, i = ix3 r q k :=
    fun i e => by
      have e0 := reduces_S8x128x4096_S8x128.drop_apply_val_of_eq i 0 0
      have e1 := reduces_S8x128x4096_S8x128.drop_apply_val_of_eq i 1 1
      rw [e] at e0 e1
      refine ⟨i 2, funext fun a => ?_⟩
      match a with
      | ⟨0, _⟩ => exact Fin.ext e0.symm
      | ⟨1, _⟩ => exact Fin.ext e1.symm
      | ⟨2, _⟩ => rfl
  have hv : ∀ k : Fin 4096,
      muli (extsi 32 (shapeCast S8x128x4096 (shapeCast S1024x4096 x shapeCasts_S1024x4096_S1024x4096)
        shapeCasts_S1024x4096_S8x128x4096) natLt_8_32) (iota .tc S8x128x4096 32 [2] iota_S8x128x4096_d2_w32) (ix3 r q k)
      = if k = p then BitVec.ofNat 32 p.val else 0#32 := fun k => by
    show IntOp.muli (BitVec.signExtend 32 _) _ = _
    rw [rows_apply x r q k z hz, h k, iota_single_apply]
    by_cases hkp : k = p
    · rw [if_pos hkp, if_pos hkp, hkp]
      show (1#32 : BitVec 32) * BitVec.ofNat 32 p.val = _
      rw [BitVec.one_mul]
    · rw [if_neg hkp, if_neg hkp]
      show (0#32 : BitVec 32) * _ = _
      rw [BitVec.zero_mul]
  refine (multiReductionI_eq_fold _ _ _ _ _ _).trans ?_
  show Finset.fold IntOp.addi 0#32 _ _ = _
  refine (fold_one IntOp.addi 0#32 (fun x => by simp [IntOp.addi]) _ _ (ix3 r q p) ?_ ?_).trans ?_
  · refine Finset.mem_filter.2 ⟨Finset.mem_univ _, funext fun a => Fin.ext ?_⟩
    match a with
    | ⟨0, _⟩ => exact reduces_S8x128x4096_S8x128.drop_apply_val_of_eq _ 0 0
    | ⟨1, _⟩ => exact reduces_S8x128x4096_S8x128.drop_apply_val_of_eq _ 1 1
  · intro i hi hne
    obtain ⟨k, rfl⟩ := hk i (Finset.mem_filter.1 hi).2
    rw [hv k, if_neg fun e => hne (by rw [e])]
  · rw [hv p, if_pos rfl]

variable (V : (c : Dev nD) → (b : Ref sig .tc) → Buf (Elt F) ((c : Thread nD τ).loc b))

/-- The block of positions at point `t`: block `t` along the first axis. -/
theorem out_index (t : Fin cfg0.N) :
    win0_1.index t 0 = t.val ∧ win0_1.index t 1 = 0 ∧ win0_1.index t 2 = 0 := by
  revert t; decide +kernel

/-- The block of mask rows at point `t`: block `t` along the rows. -/
theorem in_index (t : Fin cfg0.N) : win0_0.index t 0 = t.val ∧ win0_0.index t 1 = 0 := by
  revert t; decide +kernel

/-- After the first launch the array of positions holds, for each row of the widened mask with its one entry at
    `p`, the word `p`. -/
theorem pos_array (c : Dev nD) (i : Fin 16) (r : Fin 8) (q : Fin 128) (b : Fin 16384)
    (hb : b.val = (i.val * 8 + r.val) * 128 + q.val) (p : Fin 4096)
    (h : ∀ k : Fin 4096, (V c main_v3 : IVec S16384x4096 8) (ix2 b k) = if k = p then 1#8 else 0#8) :
    ((dat0 V c).arrAt 1 cfg0.N : IVec S16x8x128 32) (ix3 i r q) = BitVec.ofNat 32 p.val := by
  refine (dat0 V c).arrAt_forall_of_covers 1 (fun k v => (k : S16x8x128.Idx) = ix3 i r q → (v : BitVec 32) = BitVec.ofNat 32 p.val)
    (by decide +kernel) (fun t hf y => ?_) (ix3 i r q) (Memref.isWhole_whole _) rfl
  intro he
  blk_simp
  rw [after0_1]
  frame_out
  obtain ⟨y0, y1, y2, rfl⟩ : ∃ (y0 : Fin 1) (y1 : Fin 8) (y2 : Fin 128), y = ix3 y0 y1 y2 := ⟨y 0, y 1, y 2, eq_ix3 y⟩
  obtain rfl : y0 = 0 := Fin.eq_zero y0
  have e0 := congrArg Fin.val (congrFun he 0)
  have e1 := congrArg Fin.val (congrFun he 1)
  have e2 := congrArg Fin.val (congrFun he 2)
  blk_simp [out_index t] at e0
  replace e0 : t.val = i.val := e0
  blk_simp [out_index t] at e1
  replace e1 : y1.val = r.val := e1
  blk_simp [out_index t] at e2
  replace e2 : y2.val = q.val := e2
  refine pos_apply _ y1 y2 ⟨y1.val * 128 + y2.val, by omega⟩ rfl p fun k => ?_
  rw [← h k]
  blk_simp [iblk0]
  refine congrArg (V c main_v3) (funext fun a => Fin.ext ?_)
  match a with
  | ⟨0, _⟩ =>
    blk_simp [in_index t]
    show t.val * 1024 + (y1.val * 128 + y2.val) = b.val
    omega
  | ⟨1, _⟩ =>
    blk_simp [in_index t]

end Cert.KernelIdeal.Block

end
-- ==== Proof.Cell.lean ====
/-
  One cell of the result, free of the programs: what the object in a cell becomes, and its colour.
-/
module

public import proofs.«01_k».proof.Proof.OneHot

@[expose] public section

noncomputable section

namespace Cert.Spot

open Idealize.ShloMosaic Idealize.ShloMosaic.ValueIdx

/-- The colour of an object. -/
def paint (v : BitVec 32) : BitVec 32 :=
  if v = 13#32 then 1#32 else if v = 12#32 then 2#32 else if v = 11#32 then 3#32 else if v = 9#32 then 4#32 else 0#32

/-- The object shown in a cell with object `v`, for an agent that faces `d`: objects 11 and 12 are cleared away in two
    directions each. -/
def tidy (v : BitVec 32) (d : ℕ) : BitVec 32 :=
  if (v = 12#32 ∧ (d = 0 ∨ d = 1)) ∨ (v = 11#32 ∧ (d = 0 ∨ d = 2)) then 1#32 else v

/-- A cell's byte in channel `ch`, for a cell with object `v`, an agent facing `d`, the agent here or not. -/
def byte (v : BitVec 32) (d : ℕ) (here : Prop) [Decidable here] (ch : Fin 2) : BitVec 8 :=
  (if ch = 0 then (if here then 10#32 else tidy v d) else paint v).setWidth 8

/-- A select on a comparison for equality is an `if`. -/
theorem select_eq {α : Type} (x y : BitVec 32) (u v : α) :
    Scalar.select (IntOp.cmpi .eq x y) u v = if x = y then u else v := by
  by_cases h : x = y
  · rw [StableHlo.Predicate.cmpi_eq_iff.2 h, if_pos h]; rfl
  · rw [eq_zero_of_ne_one fun e => h (StableHlo.Predicate.cmpi_eq_iff.1 e), if_neg h]; rfl

/-- A select on the conjunction of two bits is an `if` on both. -/
theorem select_and {α : Type} (x y : BitVec 1) (u v : α) :
    Scalar.select (IntOp.andi x y) u v = if x = 1#1 ∧ y = 1#1 then u else v := by
  rcases BitVec.eq_zero_or_eq_one x with rfl | rfl <;> rcases BitVec.eq_zero_or_eq_one y with rfl | rfl <;> rfl

end Cert.Spot

end
-- ==== Proof.RemapBlock.lean ====
/-
  The second launch: what one block's payload holds at an index, as the cell's byte.
-/
module

public import proofs.«01_k».proof.Proof.Cell
public import proofs.«01_k».proof.Proof.Gen.KernelIdeal.Frame
public import Idealize.ShloMosaic.Lib.Pipeline.Value

@[expose] public section

noncomputable section

namespace Cert.KernelIdeal.Block

open Cert.KernelIdeal Cert.KernelIdeal.Gen Idealize.ShloMosaic Idealize.ShloMosaic.ValueIdx Cert.Spot

variable {F : FTy → Type} [FloatOps F]

/-! ## The agent's position, taken apart -/

/-- A position's cell is its quarter. -/
theorem quarter (p : Fin 4096) : IntOp.shrsi .vector (BitVec.ofNat 32 p.val) 2#32 = BitVec.ofNat 32 (p.val / 4) := by
  revert p; decide +kernel

/-- The direction's low bit is clear in directions 0 and 2. -/
theorem even_bit (p : Fin 4096) :
    IntOp.cmpi .eq (IntOp.andi (IntOp.andi (BitVec.ofNat 32 p.val) 3#32) 1#32) 0#32 = 1#1
      ↔ p.val % 4 = 0 ∨ p.val % 4 = 2 := by
  revert p; decide +kernel

/-- The direction is below two in directions 0 and 1. -/
theorem low_bit (p : Fin 4096) :
    IntOp.cmpi .slt (IntOp.andi (BitVec.ofNat 32 p.val) 3#32) 2#32 = 1#1 ↔ p.val % 4 = 0 ∨ p.val % 4 = 1 := by
  revert p; decide +kernel

/-- The word that numbers a cell of the block equals the agent's exactly when the numbers agree. -/
theorem cell_word (k : Fin 512) (t : Fin 2) (p : Fin 4096) :
    IntOp.addi (BitVec.ofNat 32 k.val) (Scalar.muli (BitVec.ofNat 32 t.val) 512#32) = BitVec.ofNat 32 (p.val / 4)
      ↔ k.val + t.val * 512 = p.val / 4 := by
  have hk := k.isLt
  have ht := t.isLt
  have hp := p.isLt
  show BitVec.ofNat 32 k.val + BitVec.ofNat 32 t.val * 512#32 = _ ↔ _
  rw [← BitVec.toNat_inj]
  simp only [BitVec.toNat_add, BitVec.toNat_mul, BitVec.toNat_ofNat]
  omega

/-! ## The payload's pieces at a cell `k`, a line `u`, a lane `q` -/

variable (x0 : IVec S1x32x128 32) (x1 : IVec S512x1x32x128 32) (k : Fin 512) (u : Fin 32) (q : Fin 128)

/-- A row of lanes laid over every cell of the block. -/
theorem spread_apply {w : ℕ} (x : IVec S1x32x128 w) :
    broadcastTo S512x32x128 x broadcasts_S1x32x128_S512x32x128 (ix3 k u q) = x (ix3 (0 : Fin 1) u q) :=
  broadcastTo_apply _ _ _ _ fun a => by match a with
    | ⟨0, _⟩ => rfl
    | ⟨1, _⟩ => rfl
    | ⟨2, _⟩ => rfl

/-- The layout block without its unit axis. -/
theorem object_apply : k1_pay7 (F := F) x1 (ix3 k u q) = x1 (ix4 k (0 : Fin 1) u q) := by
  unfold k1_pay7
  rw [shapeCast_self]
  refine shapeCast_apply x1 _ _ _ ?_
  rewrite [Shape.rowMajor_val_three, Shape.rowMajor_val_four]
  show ((k.val * 1 + 0) * 32 + u.val) * 128 + q.val = (k.val * 32 + u.val) * 128 + q.val
  omega

/-- The number of the block's cell `k`. -/
theorem number_apply (i : grid1.Coords) :
    k1_pay8 i (ix3 k u q) = IntOp.addi (BitVec.ofNat 32 k.val) (Scalar.muli (BitVec.ofNat 32 (i 1).val) 512#32) := by
  unfold k1_pay8
  show IntOp.addi (iota .tc S512x32x128 32 [0] iota_S512x32x128_d0_w32 (ix3 k u q)) _ = _
  rw [iota_single_apply]
  rfl

/-- The positions' block, read whole. -/
theorem place_apply : k1_pay2 (F := F) x0 = x0 := by
  unfold k1_pay2
  exact shapeCast_self _ _

/-- A comparison of the objects with a constant. -/
theorem is_apply (v : BitVec 32) :
    cmpi .eq (k1_pay7 (F := F) x1) (broadcast S512x32x128 v) (ix3 k u q) = IntOp.cmpi .eq (x1 (ix4 k (0 : Fin 1) u q)) v := by
  show IntOp.cmpi .eq (k1_pay7 (F := F) x1 (ix3 k u q)) v = _
  rw [object_apply]

/-- The colour of the block's cell. -/
theorem colour_apply : k1_pay11 (F := F) x1 (ix3 k u q) = paint (x1 (ix4 k (0 : Fin 1) u q)) := by
  unfold k1_pay11 k1_pay9 k1_pay10 paint
  simp only [select_apply, is_apply, select_eq]
  rfl

/-- The block of both channels before it is folded: channel 0 the object shown, channel 1 the colour. -/
theorem channels_apply (x y : IVec S512x32x128 32) (ch : Fin 2) :
    concatenate S512x2x32x128 1 [⟨S512x1x32x128, shapeCast S512x1x32x128 x shapeCasts_S512x32x128_S512x1x32x128⟩,
        ⟨S512x1x32x128, shapeCast S512x1x32x128 y shapeCasts_S512x32x128_S512x1x32x128⟩]
      concatenates_S512x1x32x128_S512x1x32x128_S512x2x32x128_d1 (ix4 k ch u q)
      = if ch = 0 then x (ix3 k u q) else y (ix3 k u q) := by
  have hs : ∀ z : IVec S512x32x128 32,
      shapeCast S512x1x32x128 z shapeCasts_S512x32x128_S512x1x32x128 (ix4 k (0 : Fin 1) u q) = z (ix3 k u q) := fun z => by
    refine shapeCast_apply z _ _ _ ?_
    rewrite [Shape.rowMajor_val_three, Shape.rowMajor_val_four]
    show (k.val * 32 + u.val) * 128 + q.val = ((k.val * 1 + 0) * 32 + u.val) * 128 + q.val
    omega
  rw [← hs x, ← hs y]
  match ch with
  | ⟨0, _⟩ =>
    exact concatenate_pair_apply_left (t := S512x2x32x128) 1 (shapeCast S512x1x32x128 x shapeCasts_S512x32x128_S512x1x32x128)
      (shapeCast S512x1x32x128 y shapeCasts_S512x32x128_S512x1x32x128) _ (ix4 k (0 : Fin 2) u q) rfl (ix4 k (0 : Fin 1) u q)
      (fun a => by match a with
        | ⟨0, _⟩ => rfl
        | ⟨1, _⟩ => rfl
        | ⟨2, _⟩ => rfl
        | ⟨3, _⟩ => rfl)
  | ⟨1, _⟩ =>
    exact concatenate_pair_apply_right (t := S512x2x32x128) 1 (shapeCast S512x1x32x128 x shapeCasts_S512x32x128_S512x1x32x128)
      (shapeCast S512x1x32x128 y shapeCasts_S512x32x128_S512x1x32x128) _ (ix4 k (1 : Fin 2) u q) rfl rfl (ix4 k (0 : Fin 1) u q)
      (fun a ha => by match a with
        | ⟨0, _⟩ => rfl
        | ⟨1, _⟩ => exact absurd rfl ha
        | ⟨2, _⟩ => rfl
        | ⟨3, _⟩ => rfl) rfl

/-- The fold of the two channels into the block's rows: row `2 * g + ch`, column `w` is channel `ch` of cell
    `32 * g + w`. -/
theorem folded_apply (x : IVec S512x2x32x128 32) (g : Fin 16) (ch : Fin 2) (w z : Fin 32)
    (hz : z.val = g.val * 2 + ch.val) (hk : k.val = g.val * 32 + w.val) :
    shapeCast S32x32x32x128 (transpose S16x2x32x32x128 [0, 2, 1, 3, 4]
        (shapeCast S16x32x2x32x128 x shapeCasts_S512x2x32x128_S16x32x2x32x128)
        transposes_S16x32x2x32x128_p0_2_1_3_4_S16x2x32x32x128) shapeCasts_S16x2x32x32x128_S32x32x32x128 (ix4 z w u q)
      = x (ix4 k ch u q) := by
  refine Eq.trans (shapeCast_apply _ _ _ (ix5 g ch w u q) ?_) ?_
  · rewrite [Shape.rowMajor_val_four, Shape.rowMajor_val_five]
    show (((g.val * 2 + ch.val) * 32 + w.val) * 32 + u.val) * 128 + q.val = ((z.val * 32 + w.val) * 32 + u.val) * 128 + q.val
    rw [hz]
  refine Eq.trans (transpose_apply _ _ _ _ (ix5 g w ch u q) fun a => by match a with
    | ⟨0, _⟩ => rfl
    | ⟨1, _⟩ => rfl
    | ⟨2, _⟩ => rfl
    | ⟨3, _⟩ => rfl
    | ⟨4, _⟩ => rfl) ?_
  refine shapeCast_apply _ _ _ _ ?_
  rewrite [Shape.rowMajor_val_four, Shape.rowMajor_val_five]
  show ((k.val * 2 + ch.val) * 32 + u.val) * 128 + q.val = (((g.val * 32 + w.val) * 2 + ch.val) * 32 + u.val) * 128 + q.val
  rw [hk]

/-- The object shown in the block's cell, where the agent of the lane stands at position `p`. -/
theorem shown_apply (i : grid1.Coords) (p : Fin 4096) (hp : x0 (ix3 (0 : Fin 1) u q) = BitVec.ofNat 32 p.val) :
    select (cmpi .eq (k1_pay8 i) (broadcastTo S512x32x128 (k1_pay4 (F := F) x0) broadcasts_S1x32x128_S512x32x128))
      (broadcast S512x32x128 10#32)
      (select (andi (k1_pay10 (F := F) x1) (broadcastTo S512x32x128 (k1_pay6 (F := F) x0) broadcasts_S1x32x128_S512x32x128))
        (broadcast S512x32x128 1#32)
        (select (andi (k1_pay9 (F := F) x1) (broadcastTo S512x32x128 (k1_pay5 (F := F) x0) broadcasts_S1x32x128_S512x32x128))
          (broadcast S512x32x128 1#32) (k1_pay7 (F := F) x1))) (ix3 k u q)
      = if k.val + (i 1).val * 512 = p.val / 4 then 10#32 else tidy (x1 (ix4 k (0 : Fin 1) u q)) (p.val % 4) := by
  have h4 : k1_pay4 (F := F) x0 (ix3 (0 : Fin 1) u q) = BitVec.ofNat 32 (p.val / 4) := by
    unfold k1_pay4
    rw [place_apply]
    show IntOp.shrsi .vector (x0 (ix3 (0 : Fin 1) u q)) 2#32 = _
    rw [hp, quarter]
  have h5 : k1_pay5 (F := F) x0 (ix3 (0 : Fin 1) u q) = 1#1 ↔ p.val % 4 = 0 ∨ p.val % 4 = 2 := by
    unfold k1_pay5 k1_pay3
    rw [place_apply]
    show IntOp.cmpi .eq (IntOp.andi (IntOp.andi (x0 (ix3 (0 : Fin 1) u q)) 3#32) 1#32) 0#32 = 1#1 ↔ _
    rw [hp, even_bit]
  have h6 : k1_pay6 (F := F) x0 (ix3 (0 : Fin 1) u q) = 1#1 ↔ p.val % 4 = 0 ∨ p.val % 4 = 1 := by
    unfold k1_pay6 k1_pay3
    rw [place_apply]
    show IntOp.cmpi .slt (IntOp.andi (x0 (ix3 (0 : Fin 1) u q)) 3#32) 2#32 = 1#1 ↔ _
    rw [hp, low_bit]
  have h8 : cmpi .eq (k1_pay8 i) (broadcastTo S512x32x128 (k1_pay4 (F := F) x0) broadcasts_S1x32x128_S512x32x128) (ix3 k u q)
      = IntOp.cmpi .eq (IntOp.addi (BitVec.ofNat 32 k.val) (Scalar.muli (BitVec.ofNat 32 (i 1).val) 512#32))
        (BitVec.ofNat 32 (p.val / 4)) := by
    show IntOp.cmpi .eq (k1_pay8 i (ix3 k u q)) (broadcastTo S512x32x128 (k1_pay4 (F := F) x0) _ (ix3 k u q)) = _
    rw [number_apply, spread_apply, h4]
  have hw := cell_word k (i 1) p
  unfold k1_pay9 k1_pay10 tidy
  simp only [select_apply, show ∀ (x y : IVec S512x32x128 1) (j : S512x32x128.Idx), andi x y j = IntOp.andi (x j) (y j)
    from fun _ _ _ => rfl, h8, select_eq, select_and, is_apply, spread_apply, h5, h6, object_apply,
    StableHlo.Predicate.cmpi_eq_iff, hw]
  show (if _ then 10#32 else if _ then 1#32 else if _ then 1#32 else _) = _
  split_ifs <;> simp_all
  rename_i h12 h11 h0
  rcases h0 with ⟨e, h⟩ | ⟨e, h⟩
  · have := h12 e
    omega
  · have := h11 e
    omega

/-- The payload of a block of the second launch: row `2 * g + ch`, column `w` is channel `ch` of the byte of cell
    `32 * g + w`, for the agent of the lane at position `p`. -/
theorem remap_apply (i : grid1.Coords) (g : Fin 16) (ch : Fin 2) (w z : Fin 32)
    (hz : z.val = g.val * 2 + ch.val) (hk : k.val = g.val * 32 + w.val)
    (p : Fin 4096) (hp : x0 (ix3 (0 : Fin 1) u q) = BitVec.ofNat 32 p.val) :
    k1_pay1 (k1_pay4 (F := F) x0) (k1_pay5 (F := F) x0) (k1_pay6 (F := F) x0) (k1_pay7 (F := F) x1) (k1_pay8 i)
        (k1_pay9 (F := F) x1) (k1_pay10 (F := F) x1) (k1_pay11 (F := F) x1) (ix4 z w u q)
      = byte (x1 (ix4 k (0 : Fin 1) u q)) (p.val % 4) (k.val + (i 1).val * 512 = p.val / 4) ch := by
  unfold k1_pay1 byte
  refine congrArg (BitVec.setWidth 8) ?_
  rw [folded_apply k u q _ g ch w z hz hk, channels_apply, shown_apply x0 x1 k u q i p hp, colour_apply]

end Cert.KernelIdeal.Block

end
-- ==== Proof.RemapArray.lean ====
/-
  The second launch: what the array of bytes holds after the run, as the cells' bytes.
-/
module

public import proofs.«01_k».proof.Proof.RemapBlock
public import Idealize.ShloMosaic.Lib.Pipeline.ValueKit

@[expose] public section

noncomputable section

namespace Cert.KernelIdeal.Block

open Idealize.ShloMosaic hiding ix0 ix1 ix2 ix3 ix4 ix5 eq_ix3 eq_ix4
open Cert.KernelIdeal Cert.KernelIdeal.Gen Idealize.ShloMosaic.TcCoe Idealize.ShloMosaic.ValueIdx Cert.Spot

variable {F : FTy → Type} [FloatOps F]

/-- The block of bytes at a point: the second coordinate along the rows, the first along the batch's lines. -/
theorem bytes_index (t : Fin cfg1.N) :
    win1_2.index t 0 = (grid1.coords t 1).val ∧ win1_2.index t 1 = 0 ∧ win1_2.index t 2 = (grid1.coords t 0).val
      ∧ win1_2.index t 3 = 0 := by
  revert t; decide +kernel

/-- The block of positions at a point: the first coordinate. -/
theorem places_index (t : Fin cfg1.N) :
    win1_0.index t 0 = (grid1.coords t 0).val ∧ win1_0.index t 1 = 0 ∧ win1_0.index t 2 = 0 := by
  revert t; decide +kernel

/-- The block of the layout at a point: the second coordinate along the cells, the first along the batch. -/
theorem layout_index (t : Fin cfg1.N) :
    win1_1.index t 0 = (grid1.coords t 1).val ∧ win1_1.index t 1 = (grid1.coords t 0).val ∧ win1_1.index t 2 = 0
      ∧ win1_1.index t 3 = 0 := by
  revert t; decide +kernel

variable (V : (c : Dev nD) → (b : Ref sig .tc) → Buf (Elt F) ((c : Thread nD τ).loc b))

/-- After the second launch row `2 * h + ch`, column `w` of the array of bytes is channel `ch` of the byte of cell
    `32 * h + w`, for the agent whose position the array of positions holds. -/
theorem remap_array (c : Dev nD) (n : Fin 64) (w : Fin 32) (s q : Fin 128) (h : Fin 32) (ch : Fin 2) (cell : Fin 1024)
    (B : Fin 4) (u : Fin 32) (hn : n.val = h.val * 2 + ch.val) (hcell : cell.val = h.val * 32 + w.val)
    (hs : s.val = B.val * 32 + u.val) (p : Fin 4096)
    (hp : (V c main_v5 : IVec S4x32x128 32) (ix3 B u q) = BitVec.ofNat 32 p.val) :
    ((dat1 V c).arrAt 2 cfg1.N : IVec S64x32x128x128 8) (ix4 n w s q)
      = byte ((V c main_v1 : IVec S1024x4x32x128 32) (ix4 cell B u q)) (p.val % 4) (cell.val = p.val / 4) ch := by
  refine (dat1 V c).arrAt_forall_of_covers 2 (fun k v => (k : S64x32x128x128.Idx) = ix4 n w s q →
      (v : BitVec 8) = byte ((V c main_v1 : IVec S1024x4x32x128 32) (ix4 cell B u q)) (p.val % 4) (cell.val = p.val / 4) ch)
    (by decide +kernel) (fun t hf y => ?_) (ix4 n w s q) (Memref.isWhole_whole _) rfl
  intro he
  blk_simp
  rw [after1_2]
  frame_out
  obtain ⟨y0, y1, y2, y3, rfl⟩ : ∃ (y0 y1 y2 : Fin 32) (y3 : Fin 128), y = ix4 y0 y1 y2 y3 :=
    ⟨y 0, y 1, y 2, y 3, eq_ix4 y⟩
  have e0 := congrArg Fin.val (congrFun he 0)
  have e1 := congrArg Fin.val (congrFun he 1)
  have e2 := congrArg Fin.val (congrFun he 2)
  have e3 := congrArg Fin.val (congrFun he 3)
  blk_simp [bytes_index t] at e0
  replace e0 : (grid1.coords t 1).val * 32 + y0.val = n.val := e0
  blk_simp [bytes_index t] at e1
  replace e1 : y1.val = w.val := e1
  blk_simp [bytes_index t] at e2
  replace e2 : (grid1.coords t 0).val * 32 + y2.val = s.val := e2
  blk_simp [bytes_index t] at e3
  replace e3 : y3.val = q.val := e3
  have hw := w.isLt
  have hu := u.isLt
  have hy := y2.isLt
  have hch := ch.isLt
  have hB : (grid1.coords t 0).val = B.val := by omega
  have hU : y2 = u := Fin.ext (by omega)
  obtain rfl : y3 = q := Fin.ext e3
  obtain rfl : y1 = w := Fin.ext e1
  subst hU
  have hx0 : (iblk1 V c 0 t : IVec S1x32x128 32) (ix3 (0 : Fin 1) y2 y3) = BitVec.ofNat 32 p.val := by
    rw [← hp]
    blk_simp [iblk1]
    refine congrArg (V c main_v5) (funext fun a => Fin.ext ?_)
    match a with
    | ⟨0, _⟩ =>
      blk_simp [places_index t]
      exact hB
    | ⟨1, _⟩ =>
      blk_simp [places_index t]
    | ⟨2, _⟩ =>
      blk_simp [places_index t]
  have hx1 : (iblk1 V c 1 t : IVec S512x1x32x128 32)
      (ix4 ⟨(y0.val / 2) * 32 + y1.val, by omega⟩ (0 : Fin 1) y2 y3)
      = (V c main_v1 : IVec S1024x4x32x128 32) (ix4 cell B y2 y3) := by
    blk_simp [iblk1]
    refine congrArg (V c main_v1) (funext fun a => Fin.ext ?_)
    match a with
    | ⟨0, _⟩ =>
      blk_simp [layout_index t]
      show (grid1.coords t 1).val * 512 + ((y0.val / 2) * 32 + y1.val) = cell.val
      omega
    | ⟨1, _⟩ =>
      blk_simp [layout_index t]
      exact hB
    | ⟨2, _⟩ =>
      blk_simp [layout_index t]
    | ⟨3, _⟩ =>
      blk_simp [layout_index t]
  refine (remap_apply _ _ ⟨(y0.val / 2) * 32 + y1.val, by omega⟩ y2 y3 (grid1.coords t) ⟨y0.val / 2, by omega⟩ ch y1 y0
    (show y0.val = y0.val / 2 * 2 + ch.val by omega) rfl p hx0).trans ?_
  rw [hx1]
  have hcl : (y0.val / 2 * 32 + y1.val) + (grid1.coords t 1).val * 512 = cell.val := by omega
  show byte _ _ ((y0.val / 2 * 32 + y1.val) + (grid1.coords t 1).val * 512 = p.val / 4) ch = _
  simp only [hcl]

end Cert.KernelIdeal.Block

end
-- ==== Proof.KernelValue.lean ====
/-
  The kernel program's result array at an index: the host operations around the two launches read off, the launches'
  arrays put in.
-/
module

public import proofs.«01_k».proof.Proof.PosBlock
public import proofs.«01_k».proof.Proof.RemapArray
public import Idealize.ShloMosaic.Lib.StableHlo.RunRead

@[expose] public section

set_option maxRecDepth 16384

noncomputable section

namespace Cert.KernelIdeal.Value

open Idealize.ShloMosaic hiding ix0 ix1 ix2 ix3 ix4 ix5 eq_ix3 eq_ix4
open Cert.KernelIdeal Cert.KernelIdeal.Gen Idealize.ShloMosaic.TcCoe Idealize.ShloMosaic.StableHlo
  Idealize.ShloMosaic.ValueIdx Cert.Spot

variable {F : FTy → Type} [FloatOps F]
variable (m : (ℓ : Loc nD τ sig) → Buf (Elt F) ℓ) (ρ : Dev nD → PrngReg) (c : Dev nD)

/-- The layout as the program was launched with it. -/
abbrev layout : IVec S16384x32x32x1 32 := m ((c.tc : Thread nD τ).loc main_arg0)

/-- The mask as the program was launched with it. -/
abbrev mask : IVec S16384x4096 1 := m ((c.tc : Thread nD τ).loc main_arg1)

/-! ## The host operations, line by line -/

/-- The first launch reads the mask widened to bytes. -/
theorem entry_mask : (V1 m ρ c main_v3 : IVec S16384x4096 8) = extui 8 (mask m c) natLt_1_8 := by
  show after hostOps0 (W0 m ρ c) (Proc.devRef .tc main_v3) = _
  after_reads_simp
  rfl

/-- Before the launches the layout is turned to have the batch last, and folded. -/
theorem entry_layout : (W1 m ρ c (Proc.devRef .tc main_v1) : IVec S1024x4x32x128 32)
    = shapeCast S1024x4x32x128 (transpose S32x32x1x16384 [1, 2, 3, 0] (layout m c)
        transposes_S16384x32x32x1_S32x32x1x16384_1_2_3_0) shapeCasts_S32x32x1x16384_S1024x4x32x128 := by
  show after hostOps0 (W0 m ρ c) (Proc.devRef .tc main_v1) = _
  after_reads_simp
  rfl

/-- The second launch reads the layout so turned. -/
theorem second_layout : V3 m ρ c main_v1 = W1 m ρ c (Proc.devRef .tc main_v1) :=
  (W3_of m ρ c main_v1 (by decide)).trans (W2_of m ρ c main_v1 (by decide))

/-- The second launch reads the positions the first one left, folded. -/
theorem second_places : (V3 m ρ c main_v5 : IVec S4x32x128 32)
    = shapeCast S4x32x128 ((dat0 (V1 m ρ) c).arrAt 1 cfg0.N : IVec S16x8x128 32) shapeCasts_S16x8x128_S4x32x128 := by
  have h : (V3 m ρ c main_v5 : IVec S4x32x128 32)
      = shapeCast S4x32x128 (W2 m ρ c (Proc.devRef .tc main_v4) : IVec S16x8x128 32) shapeCasts_S16x8x128_S4x32x128 := by
    show after hostOps1 (W2 m ρ c) (Proc.devRef .tc main_v5) = _
    after_reads_simp
    rfl
  rw [h]
  exact congrArg (fun x : IVec S16x8x128 32 => shapeCast S4x32x128 x shapeCasts_S16x8x128_S4x32x128) (W2_arr m ρ c 1)

/-- The result is the bytes the second launch left, folded, turned to have the batch first, and folded again. -/
theorem result_bytes : (W5 m ρ c (Proc.devRef .tc main_v9) : IVec S16384x32x32x2 8)
    = shapeCast S16384x32x32x2 (transpose S128x128x32x32x2 [3, 4, 0, 2, 1]
        (shapeCast S32x2x32x128x128 ((dat1 (V3 m ρ) c).arrAt 2 cfg1.N : IVec S64x32x128x128 8)
          shapeCasts_S64x32x128x128_S32x2x32x128x128)
        transposes_S32x2x32x128x128_S128x128x32x32x2_3_4_0_2_1) shapeCasts_S128x128x32x32x2_S16384x32x32x2 := by
  have h : (W5 m ρ c (Proc.devRef .tc main_v9) : IVec S16384x32x32x2 8)
      = shapeCast S16384x32x32x2 (transpose S128x128x32x32x2 [3, 4, 0, 2, 1]
          (shapeCast S32x2x32x128x128 (W4 m ρ c (Proc.devRef .tc main_v6) : IVec S64x32x128x128 8)
            shapeCasts_S64x32x128x128_S32x2x32x128x128)
          transposes_S32x2x32x128x128_S128x128x32x32x2_3_4_0_2_1) shapeCasts_S128x128x32x32x2_S16384x32x32x2 := by
    show after hostOps2 (W4 m ρ c) (Proc.devRef .tc main_v9) = _
    after_reads_simp
    rfl
  rw [h]
  exact congrArg (fun x : IVec S64x32x128x128 8 => shapeCast S16384x32x32x2 (transpose S128x128x32x32x2 [3, 4, 0, 2, 1]
    (shapeCast S32x2x32x128x128 x shapeCasts_S64x32x128x128_S32x2x32x128x128)
    transposes_S32x2x32x128x128_S128x128x32x32x2_3_4_0_2_1) shapeCasts_S128x128x32x32x2_S16384x32x32x2) (W4_arr m ρ c 2)

/-! ## The folds at an index -/

/-- The folded layout at cell `32 * i + j` and batch element `b`, in its three digits. -/
theorem turned_apply (l : IVec S16384x32x32x1 32) (b : Fin 16384) (i j : Fin 32) (cell : Fin 1024) (B : Fin 4) (u : Fin 32)
    (q : Fin 128) (hc : cell.val = i.val * 32 + j.val) (hb : b.val = (B.val * 32 + u.val) * 128 + q.val) :
    shapeCast S1024x4x32x128 (transpose S32x32x1x16384 [1, 2, 3, 0] l transposes_S16384x32x32x1_S32x32x1x16384_1_2_3_0)
      shapeCasts_S32x32x1x16384_S1024x4x32x128 (ix4 cell B u q) = l (ix4 b i j (0 : Fin 1)) := by
  refine Eq.trans (shapeCast_apply _ _ _ (ix4 i j (0 : Fin 1) b) ?_) ?_
  · rewrite [Shape.rowMajor_val_four, Shape.rowMajor_val_four]
    show ((i.val * 32 + j.val) * 1 + 0) * 16384 + b.val = ((cell.val * 4 + B.val) * 32 + u.val) * 128 + q.val
    omega
  exact transpose_apply _ _ _ _ (ix4 b i j (0 : Fin 1)) fun a => by match a with
    | ⟨0, _⟩ => rfl
    | ⟨1, _⟩ => rfl
    | ⟨2, _⟩ => rfl
    | ⟨3, _⟩ => rfl

/-- The positions folded from sixteen eights of lines to four thirty-twos. -/
theorem lines_apply (x : IVec S16x8x128 32) (B : Fin 4) (u : Fin 32) (q : Fin 128) (e : Fin 16) (r : Fin 8)
    (h : e.val * 8 + r.val = B.val * 32 + u.val) :
    shapeCast S4x32x128 x shapeCasts_S16x8x128_S4x32x128 (ix3 B u q) = x (ix3 e r q) := by
  refine shapeCast_apply _ _ _ _ ?_
  rewrite [Shape.rowMajor_val_three, Shape.rowMajor_val_three]
  show (e.val * 8 + r.val) * 128 + q.val = (B.val * 32 + u.val) * 128 + q.val
  rw [h]

/-- The bytes turned back: batch element `b`, row `i`, column `j`, channel `ch`. -/
theorem back_apply (x : IVec S64x32x128x128 8) (b : Fin 16384) (i j : Fin 32) (ch : Fin 2) (n : Fin 64) (s q : Fin 128)
    (hn : n.val = i.val * 2 + ch.val) (hb : b.val = s.val * 128 + q.val) :
    shapeCast S16384x32x32x2 (transpose S128x128x32x32x2 [3, 4, 0, 2, 1]
        (shapeCast S32x2x32x128x128 x shapeCasts_S64x32x128x128_S32x2x32x128x128)
        transposes_S32x2x32x128x128_S128x128x32x32x2_3_4_0_2_1) shapeCasts_S128x128x32x32x2_S16384x32x32x2 (ix4 b i j ch)
      = x (ix4 n j s q) := by
  refine Eq.trans (shapeCast_apply _ _ _ (ix5 s q i j ch) ?_) ?_
  · rewrite [Shape.rowMajor_val_four, Shape.rowMajor_val_five]
    show (((s.val * 128 + q.val) * 32 + i.val) * 32 + j.val) * 2 + ch.val = ((b.val * 32 + i.val) * 32 + j.val) * 2 + ch.val
    rw [hb]
  refine Eq.trans (transpose_apply _ _ _ _ (ix5 i ch j s q) fun a => by match a with
    | ⟨0, _⟩ => rfl
    | ⟨1, _⟩ => rfl
    | ⟨2, _⟩ => rfl
    | ⟨3, _⟩ => rfl
    | ⟨4, _⟩ => rfl) ?_
  refine shapeCast_apply _ _ _ _ ?_
  rewrite [Shape.rowMajor_val_four, Shape.rowMajor_val_five]
  show ((n.val * 32 + j.val) * 128 + s.val) * 128 + q.val = (((i.val * 2 + ch.val) * 32 + j.val) * 128 + s.val) * 128 + q.val
  rw [hn]

/-! ## The result -/

/-- The mask widened to bytes has its one entry where the mask has it. -/
theorem widened_agent (a : IVec S16384x4096 1) (b : Fin 16384) (p : Fin 4096) (h : Agent a b p) (k : Fin 4096) :
    extui 8 a natLt_1_8 (ix2 b k) = if k = p then 1#8 else 0#8 := by
  rw [extui_apply, h k]
  split_ifs <;> rfl

/-- The second launch finds each agent's position at its batch element's line and lane. -/
theorem place_found (b : Fin 16384) (p : Fin 4096) (h : Agent (mask m c) b p) (B : Fin 4) (u : Fin 32) (q : Fin 128)
    (hb : b.val = (B.val * 32 + u.val) * 128 + q.val) :
    (V3 m ρ c main_v5 : IVec S4x32x128 32) (ix3 B u q) = BitVec.ofNat 32 p.val := by
  have hB := B.isLt
  have hu := u.isLt
  obtain ⟨e, he⟩ : ∃ e : Fin 16, e.val = (B.val * 32 + u.val) / 8 := ⟨⟨(B.val * 32 + u.val) / 8, by omega⟩, rfl⟩
  obtain ⟨r, hr⟩ : ∃ r : Fin 8, r.val = (B.val * 32 + u.val) % 8 := ⟨⟨(B.val * 32 + u.val) % 8, by omega⟩, rfl⟩
  have h1 := congrFun (second_places m ρ c) (ix3 B u q)
  have h2 := lines_apply ((dat0 (V1 m ρ) c).arrAt 1 cfg0.N : IVec S16x8x128 32) B u q e r (by omega)
  have h3 := Block.pos_array (V1 m ρ) c e r q b (by omega) p fun k =>
    (congrFun (entry_mask m ρ c) (ix2 b k)).trans (widened_agent (mask m c) b p h k)
  exact (h1.trans h2).trans h3

/-- The second launch finds each cell's object at the cell, the line and the lane. -/
theorem object_found (b : Fin 16384) (i j : Fin 32) (cell : Fin 1024) (B : Fin 4) (u : Fin 32) (q : Fin 128)
    (hc : cell.val = i.val * 32 + j.val) (hb : b.val = (B.val * 32 + u.val) * 128 + q.val) :
    (V3 m ρ c main_v1 : IVec S1024x4x32x128 32) (ix4 cell B u q) = layout m c (ix4 b i j (0 : Fin 1)) :=
  (congrFun ((second_layout m ρ c).trans (entry_layout m ρ c)) (ix4 cell B u q)).trans
    (turned_apply (layout m c) b i j cell B u q hc hb)

/-- The kernel program's result at a batch element's cell and channel is the cell's byte. -/
theorem result_apply (b : Fin 16384) (p : Fin 4096) (h : Agent (mask m c) b p) (i j : Fin 32) (ch : Fin 2) :
    (W5 m ρ c (Proc.devRef .tc main_v9) : IVec S16384x32x32x2 8) (ix4 b i j ch)
      = byte (layout m c (ix4 b i j (0 : Fin 1))) (p.val % 4) (i.val * 32 + j.val = p.val / 4) ch := by
  have hb := b.isLt
  have hi := i.isLt
  have hj := j.isLt
  have hch := ch.isLt
  obtain ⟨n, hn⟩ : ∃ n : Fin 64, n.val = i.val * 2 + ch.val := ⟨⟨i.val * 2 + ch.val, by omega⟩, rfl⟩
  obtain ⟨cell, hc⟩ : ∃ k : Fin 1024, k.val = i.val * 32 + j.val := ⟨⟨i.val * 32 + j.val, by omega⟩, rfl⟩
  obtain ⟨s, hs⟩ : ∃ s : Fin 128, s.val = b.val / 128 := ⟨⟨b.val / 128, by omega⟩, rfl⟩
  obtain ⟨q, hq⟩ : ∃ q : Fin 128, q.val = b.val % 128 := ⟨⟨b.val % 128, by omega⟩, rfl⟩
  obtain ⟨B, hB⟩ : ∃ B : Fin 4, B.val = s.val / 32 := ⟨⟨s.val / 32, by omega⟩, rfl⟩
  obtain ⟨u, hu⟩ : ∃ u : Fin 32, u.val = s.val % 32 := ⟨⟨s.val % 32, by omega⟩, rfl⟩
  have h1 := congrFun (result_bytes m ρ c) (ix4 b i j ch)
  have h2 := back_apply ((dat1 (V3 m ρ) c).arrAt 2 cfg1.N : IVec S64x32x128x128 8) b i j ch n s q hn (by omega)
  have h3 := Block.remap_array (V3 m ρ) c n j s q i ch cell B u hn hc (by omega) p
    (place_found m ρ c b p h B u q (by omega))
  have h4 := object_found m ρ c b i j cell B u q hc (by omega)
  refine ((h1.trans h2).trans h3).trans ?_
  simp only [h4, hc]

end Cert.KernelIdeal.Value

end
-- ==== Proof.RefStages.lean ====
/-
  The reference's computation, stage by stage: named functions of the two arguments, each one or a few of the
  reference's host operations. `refOut` is the result array.
-/
module

public import proofs.«01_k».proof.Proof.Gen.ReferenceIdeal

@[expose] public section

noncomputable section

namespace Cert.ReferenceIdeal.Stage

open Cert.ReferenceIdeal Cert.ReferenceIdeal.Gen Idealize.ShloMosaic

/-- One word everywhere in a grid of cells per batch element. -/
def grid (k : BitVec 32) : IVec S16384x32x32 32 :=
  broadcastInDim S16384x32x32 ![] bcast_S_S16384x32x32 (constantI S_ 32 k)

/-- One word per batch element. -/
def per (k : BitVec 32) : IVec S16384 32 :=
  broadcastInDim S16384 ![] bcast_S_S16384 (constantI S_ 32 k)

/-- The agent mask by batch element, row, column and direction. -/
def mask4 (a : IVec S16384x4096 1) : IVec S16384x32x32x4 1 :=
  shapeCast S16384x32x32x4 a shapeCasts_S16384x4096_S16384x32x32x4

/-- Whether the agent stands in a cell, whatever its direction. -/
def here (a : IVec S16384x4096 1) : IVec S16384x32x32 1 :=
  Host.reduce IntOp.ori (mask4 a) (constantI S_ 1 0#1) reducesTo_S16384x32x32x4_S16384x32x32_d3 h_S_

/-- How many mask entries are set in each direction. -/
def counts (a : IVec S16384x4096 1) : IVec S16384x4 32 :=
  Host.reduce IntOp.addi (extui 32 (mask4 a) natLt_1_32) (constantI S_ 32 0#32)
    reducesTo_S16384x32x32x4_S16384x4_d1_2 h_S_

/-- The agent's direction: the first direction of the greatest count. -/
def heading (a : IVec S16384x4096 1) : IVec S16384 32 := fun j =>
  (Host.reduce2 reducer_argmax_i32_i32 (counts a) (iotaInDim S16384x4 32 1) (constantI S_ 32 2147483648#32)
    (constantI S_ 32 0#32) reducesTo_S16384x4_S16384_d1 h_S_ j).2

/-- Two arrays of cells side by side, as two channels. -/
def join (x y : IVec S16384x32x32x1 32) : IVec S16384x32x32x2 32 :=
  concatenate S16384x32x32x2 3 [⟨S16384x32x32x1, x⟩, ⟨S16384x32x32x1, y⟩]
    concatenates_S16384x32x32x1_S16384x32x32x1_S16384x32x32x2_d3

/-- Two vectors side by side, as two columns. -/
def joinCols (x y : IVec S16384x1 32) : IVec S16384x2 32 :=
  concatenate S16384x2 1 [⟨S16384x1, x⟩, ⟨S16384x1, y⟩] concatenates_S16384x1_S16384x1_S16384x2_d1

/-- The layout with a channel of zeros beside it. -/
def both (l : IVec S16384x32x32x1 32) : IVec S16384x32x32x2 32 :=
  join l (broadcastInDim S16384x32x32x1 ![] bcast_S_S16384x32x32x1 (constantI S_ 32 0#32))

/-- Channel 0: the object in a cell. -/
def object (l : IVec S16384x32x32x1 32) : IVec S16384x32x32 32 :=
  shapeCast S16384x32x32 (extractStridedSlice S16384x32x32x1 ![0, 0, 0, 0] (both l)
    slices_S16384x32x32x2_S16384x32x32x1_0_0_0_0) shapeCasts_S16384x32x32x1_S16384x32x32

/-- Channel 1 before any colour is set. -/
def blank (l : IVec S16384x32x32x1 32) : IVec S16384x32x32 32 :=
  shapeCast S16384x32x32 (extractStridedSlice S16384x32x32x1 ![0, 0, 0, 1] (both l)
    slices_S16384x32x32x2_S16384x32x32x1_0_0_0_1) shapeCasts_S16384x32x32x1_S16384x32x32

/-- Whether a cell holds the object `k`. -/
def isKind (l : IVec S16384x32x32x1 32) (k : BitVec 32) : IVec S16384x32x32 1 := cmpi .eq (object l) (grid k)

/-- The colour of a cell's object. -/
def colour (l : IVec S16384x32x32x1 32) : IVec S16384x32x32 32 :=
  select (isKind l 13#32) (grid 1#32) (select (isKind l 12#32) (grid 2#32)
    (select (isKind l 11#32) (grid 3#32) (select (isKind l 9#32) (grid 4#32) (blank l))))

/-- Whether each batch element's direction is `k`, at every cell. -/
def faces (d : IVec S16384 32) (k : BitVec 32) : IVec S16384x32x32 1 :=
  broadcastInDim S16384x32x32 ![0, 1, 2] bcast_S16384x1x1_S16384x32x32_0_1_2
    (broadcastInDim S16384x1x1 ![0] bcast_S16384_S16384x1x1_0 (cmpi .eq d (per k)))

/-- The objects `x` once the acquired items are taken off the grid: `k11`, `k12` say where objects 11 and 12 are, `d`
    is the direction of each batch element's agent. -/
def sweep (x : IVec S16384x32x32 32) (k11 k12 : IVec S16384x32x32 1) (d : IVec S16384 32) : IVec S16384x32x32 32 :=
  select (andi k11 (faces d 2#32)) (grid 1#32)
    (select (andi k12 (faces d 1#32)) (grid 1#32)
      (select (andi k12 (faces d 0#32)) (grid 1#32)
        (select (andi k11 (faces d 0#32)) (grid 1#32) x)))

/-- Whether some cell of a batch element is set in both arrays. -/
def meets (h k : IVec S16384x32x32 1) : IVec S16384 1 :=
  Host.reduce IntOp.ori
    (andi (shapeCast S16384x1024 h shapeCasts_S16384x32x32_S16384x1024)
      (shapeCast S16384x1024 k shapeCasts_S16384x32x32_S16384x1024))
    (constantI S_ 1 0#1) reducesTo_S16384x1024_S16384_d1 h_S_

/-- The agent's colour: that of the object it stands on (`h` says where the agent is, `kN` where object `N` is). -/
def tint (h k9 k11 k12 k13 : IVec S16384x32x32 1) : IVec S16384 32 :=
  select (meets h k13) (per 1#32) (select (meets h k9) (per 4#32)
    (select (meets h k12) (per 2#32) (select (meets h k11) (per 3#32) (per 0#32))))

/-- The agent's two channels, of its colour. -/
def agentPair (t : IVec S16384 32) : IVec S16384x2 32 :=
  joinCols (broadcastInDim S16384x1 ![0] bcast_S16384_S16384x1_0 (per 10#32))
    (broadcastInDim S16384x1 ![0] bcast_S16384_S16384x1_0 t)

/-- The agent's channels where it stands, the cells' elsewhere, cut to bytes. -/
def place (h : IVec S16384x32x32 1) (g : IVec S16384x2 32) (x t : IVec S16384x32x32 32) : IVec S16384x32x32x2 8 :=
  trunci 8 (select
    (broadcastInDim S16384x32x32x2 ![0, 1, 2, 3] bcast_S16384x32x32x1_S16384x32x32x2_0_1_2_3
      (broadcastInDim S16384x32x32x1 ![0, 1, 2] bcast_S16384x32x32_S16384x32x32x1_0_1_2 h))
    (broadcastInDim S16384x32x32x2 ![0, 1, 2, 3] bcast_S16384x1x1x2_S16384x32x32x2_0_1_2_3
      (broadcastInDim S16384x1x1x2 ![0, 3] bcast_S16384x2_S16384x1x1x2_0_3 g))
    (join (broadcastInDim S16384x32x32x1 ![0, 1, 2] bcast_S16384x32x32_S16384x32x32x1_0_1_2 x)
      (broadcastInDim S16384x32x32x1 ![0, 1, 2] bcast_S16384x32x32_S16384x32x32x1_0_1_2 t))) natLt_8_32

/-- The cell's object once the acquired items are taken off the grid. -/
def swept (l : IVec S16384x32x32x1 32) (a : IVec S16384x4096 1) : IVec S16384x32x32 32 :=
  sweep (object l) (isKind l 11#32) (isKind l 12#32) (heading a)

/-- The agent's colour. -/
def agentColour (l : IVec S16384x32x32x1 32) (a : IVec S16384x4096 1) : IVec S16384 32 :=
  tint (here a) (isKind l 9#32) (isKind l 11#32) (isKind l 12#32) (isKind l 13#32)

/-- The reference's result. -/
def refOut (l : IVec S16384x32x32x1 32) (a : IVec S16384x4096 1) : IVec S16384x32x32x2 8 :=
  place (here a) (agentPair (agentColour l a)) (swept l a) (colour l)

end Cert.ReferenceIdeal.Stage

end
-- ==== Proof.RefRun.lean ====
/-
  The run of the reference program: its host operations in five lines, what each line leaves in the buffers the next
  ones read, and the run: every execution ends with the result array at `Stage.refOut` of the two arguments, the
  arguments unchanged and every semaphore counter at zero.
-/
module

public import proofs.«01_k».proof.Proof.RefStages
public import Idealize.ShloMosaic.Lib.Claim
public import Idealize.ShloMosaic.Lib.StableHlo.RunRead

@[expose] public section

set_option maxRecDepth 16384
set_option maxHeartbeats 4000000

noncomputable section

namespace Cert.ReferenceIdeal.Value

open Cert.ReferenceIdeal Cert.ReferenceIdeal.Gen
open Idealize.ShloMosaic Idealize.ShloMosaic.TcCoe Idealize.ShloMosaic.StableHlo Idealize.SL.Sem

variable {F : FTy → Type} [FloatOps F]

/-- The mask: where the agent is, and its direction. -/
abbrev line1 : List (HloOp τ sig (Elt F)) :=
  [ reshape main_arg1 main_v0 (rfl : (.i1 : EltTy) = .i1) shapeCasts_S16384x4096_S16384x32x32x4,
    nullary main_c (constantI S_ 1 0#1),
    binary main_v0 main_c main_v1 ((fun x v => Host.reduce IntOp.ori x v reducesTo_S16384x32x32x4_S16384x32x32_d3 h_S_) : (⟨S16384x32x32x4, .i1⟩ : BufTy).Contents (Elt F) → (⟨S_, .i1⟩ : BufTy).Contents (Elt F) → (⟨S16384x32x32, .i1⟩ : BufTy).Contents (Elt F)),
    unary main_v0 main_v2 ((extui 32 · natLt_1_32) : (⟨S16384x32x32x4, .i1⟩ : BufTy).Contents (Elt F) → (⟨S16384x32x32x4, .i32⟩ : BufTy).Contents (Elt F)),
    nullary main_c_0 (constantI S_ 32 0#32),
    binary main_v2 main_c_0 main_v3 ((fun x v => Host.reduce IntOp.addi x v reducesTo_S16384x32x32x4_S16384x4_d1_2 h_S_) : (⟨S16384x32x32x4, .i32⟩ : BufTy).Contents (Elt F) → (⟨S_, .i32⟩ : BufTy).Contents (Elt F) → (⟨S16384x4, .i32⟩ : BufTy).Contents (Elt F)),
    TRef.nullary (TRef.of (T := ⟨S16384x4, .i32⟩) main_call0_v0) (iotaInDim S16384x4 32 1),
    TRef.nullary (TRef.of (T := ⟨S_, .i32⟩) main_call0_c) (constantI S_ 32 2147483648#32),
    TRef.nullary (TRef.of (T := ⟨S_, .i32⟩) main_call0_c_0) (constantI S_ 32 0#32),
    TRef.quaternary (TRef.of (T := ⟨S16384x4, .i32⟩) main_v3) (TRef.of (T := ⟨S16384x4, .i32⟩) main_call0_v0) (TRef.of (T := ⟨S_, .i32⟩) main_call0_c) (TRef.of (T := ⟨S_, .i32⟩) main_call0_c_0) (TRef.of (T := ⟨S16384, .i32⟩) main_call0_v1_0) (fun x y u v j => (Host.reduce2 reducer_argmax_i32_i32 x y u v reducesTo_S16384x4_S16384_d1 h_S_ j).1),
    TRef.quaternary (TRef.of (T := ⟨S16384x4, .i32⟩) main_v3) (TRef.of (T := ⟨S16384x4, .i32⟩) main_call0_v0) (TRef.of (T := ⟨S_, .i32⟩) main_call0_c) (TRef.of (T := ⟨S_, .i32⟩) main_call0_c_0) (TRef.of (T := ⟨S16384, .i32⟩) main_v4) (fun x y u v j => (Host.reduce2 reducer_argmax_i32_i32 x y u v reducesTo_S16384x4_S16384_d1 h_S_ j).2) ]

/-- The layout: its objects and their colours. -/
abbrev line2 : List (HloOp τ sig (Elt F)) :=
  [ nullary main_c_1 (constantI S_ 32 0#32),
    unary main_c_1 main_v5 (broadcastInDim S16384x32x32x1 ![] bcast_S_S16384x32x32x1 : (⟨S_, .i32⟩ : BufTy).Contents (Elt F) → (⟨S16384x32x32x1, .i32⟩ : BufTy).Contents (Elt F)),
    binary main_arg0 main_v5 main_v6 Stage.join,
    unary main_v6 main_v7 ((extractStridedSlice S16384x32x32x1 ![0, 0, 0, 0] · slices_S16384x32x32x2_S16384x32x32x1_0_0_0_0) : (⟨S16384x32x32x2, .i32⟩ : BufTy).Contents (Elt F) → (⟨S16384x32x32x1, .i32⟩ : BufTy).Contents (Elt F)),
    reshape main_v7 main_v8 (rfl : (.i32 : EltTy) = .i32) shapeCasts_S16384x32x32x1_S16384x32x32,
    nullary main_c_2 (constantI S_ 32 9#32),
    unary main_c_2 main_v9 (broadcastInDim S16384x32x32 ![] bcast_S_S16384x32x32 : (⟨S_, .i32⟩ : BufTy).Contents (Elt F) → (⟨S16384x32x32, .i32⟩ : BufTy).Contents (Elt F)),
    binary main_v8 main_v9 main_v10 (cmpi .eq : (⟨S16384x32x32, .i32⟩ : BufTy).Contents (Elt F) → (⟨S16384x32x32, .i32⟩ : BufTy).Contents (Elt F) → (⟨S16384x32x32, .i1⟩ : BufTy).Contents (Elt F)),
    nullary main_c_3 (constantI S_ 32 11#32),
    unary main_c_3 main_v11 (broadcastInDim S16384x32x32 ![] bcast_S_S16384x32x32 : (⟨S_, .i32⟩ : BufTy).Contents (Elt F) → (⟨S16384x32x32, .i32⟩ : BufTy).Contents (Elt F)),
    binary main_v8 main_v11 main_v12 (cmpi .eq : (⟨S16384x32x32, .i32⟩ : BufTy).Contents (Elt F) → (⟨S16384x32x32, .i32⟩ : BufTy).Contents (Elt F) → (⟨S16384x32x32, .i1⟩ : BufTy).Contents (Elt F)),
    nullary main_c_4 (constantI S_ 32 12#32),
    unary main_c_4 main_v13 (broadcastInDim S16384x32x32 ![] bcast_S_S16384x32x32 : (⟨S_, .i32⟩ : BufTy).Contents (Elt F) → (⟨S16384x32x32, .i32⟩ : BufTy).Contents (Elt F)),
    binary main_v8 main_v13 main_v14 (cmpi .eq : (⟨S16384x32x32, .i32⟩ : BufTy).Contents (Elt F) → (⟨S16384x32x32, .i32⟩ : BufTy).Contents (Elt F) → (⟨S16384x32x32, .i1⟩ : BufTy).Contents (Elt F)),
    nullary main_c_5 (constantI S_ 32 13#32),
    unary main_c_5 main_v15 (broadcastInDim S16384x32x32 ![] bcast_S_S16384x32x32 : (⟨S_, .i32⟩ : BufTy).Contents (Elt F) → (⟨S16384x32x32, .i32⟩ : BufTy).Contents (Elt F)),
    binary main_v8 main_v15 main_v16 (cmpi .eq : (⟨S16384x32x32, .i32⟩ : BufTy).Contents (Elt F) → (⟨S16384x32x32, .i32⟩ : BufTy).Contents (Elt F) → (⟨S16384x32x32, .i1⟩ : BufTy).Contents (Elt F)),
    unary main_v6 main_v17 ((extractStridedSlice S16384x32x32x1 ![0, 0, 0, 1] · slices_S16384x32x32x2_S16384x32x32x1_0_0_0_1) : (⟨S16384x32x32x2, .i32⟩ : BufTy).Contents (Elt F) → (⟨S16384x32x32x1, .i32⟩ : BufTy).Contents (Elt F)),
    reshape main_v17 main_v18 (rfl : (.i32 : EltTy) = .i32) shapeCasts_S16384x32x32x1_S16384x32x32,
    nullary main_c_6 (constantI S_ 32 4#32),
    TRef.unary (TRef.of (T := ⟨S_, .i32⟩) main_c_6) (TRef.of (T := ⟨S_, .i32⟩) main_call1_v0) id,
    TRef.unary (TRef.of (T := ⟨S_, .i32⟩) main_call1_v0) (TRef.of (T := ⟨S16384x32x32, .i32⟩) main_call1_v1) (broadcastInDim S16384x32x32 ![] bcast_S_S16384x32x32),
    TRef.ternary (TRef.of (T := ⟨S16384x32x32, .i1⟩) main_v10) (TRef.of (T := ⟨S16384x32x32, .i32⟩) main_call1_v1) (TRef.of (T := ⟨S16384x32x32, .i32⟩) main_v18) (TRef.of (T := ⟨S16384x32x32, .i32⟩) main_v19) select,
    nullary main_c_7 (constantI S_ 32 3#32),
    TRef.unary (TRef.of (T := ⟨S_, .i32⟩) main_c_7) (TRef.of (T := ⟨S_, .i32⟩) main_call2_v0) id,
    TRef.unary (TRef.of (T := ⟨S_, .i32⟩) main_call2_v0) (TRef.of (T := ⟨S16384x32x32, .i32⟩) main_call2_v1) (broadcastInDim S16384x32x32 ![] bcast_S_S16384x32x32),
    TRef.ternary (TRef.of (T := ⟨S16384x32x32, .i1⟩) main_v12) (TRef.of (T := ⟨S16384x32x32, .i32⟩) main_call2_v1) (TRef.of (T := ⟨S16384x32x32, .i32⟩) main_v19) (TRef.of (T := ⟨S16384x32x32, .i32⟩) main_v20) select,
    nullary main_c_8 (constantI S_ 32 2#32),
    TRef.unary (TRef.of (T := ⟨S_, .i32⟩) main_c_8) (TRef.of (T := ⟨S_, .i32⟩) main_call3_v0) id,
    TRef.unary (TRef.of (T := ⟨S_, .i32⟩) main_call3_v0) (TRef.of (T := ⟨S16384x32x32, .i32⟩) main_call3_v1) (broadcastInDim S16384x32x32 ![] bcast_S_S16384x32x32),
    TRef.ternary (TRef.of (T := ⟨S16384x32x32, .i1⟩) main_v14) (TRef.of (T := ⟨S16384x32x32, .i32⟩) main_call3_v1) (TRef.of (T := ⟨S16384x32x32, .i32⟩) main_v20) (TRef.of (T := ⟨S16384x32x32, .i32⟩) main_v21) select,
    nullary main_c_9 (constantI S_ 32 1#32),
    TRef.unary (TRef.of (T := ⟨S_, .i32⟩) main_c_9) (TRef.of (T := ⟨S_, .i32⟩) main_call4_v0) id,
    TRef.unary (TRef.of (T := ⟨S_, .i32⟩) main_call4_v0) (TRef.of (T := ⟨S16384x32x32, .i32⟩) main_call4_v1) (broadcastInDim S16384x32x32 ![] bcast_S_S16384x32x32),
    TRef.ternary (TRef.of (T := ⟨S16384x32x32, .i1⟩) main_v16) (TRef.of (T := ⟨S16384x32x32, .i32⟩) main_call4_v1) (TRef.of (T := ⟨S16384x32x32, .i32⟩) main_v21) (TRef.of (T := ⟨S16384x32x32, .i32⟩) main_v22) select ]

/-- The acquired items taken off the grid. -/
abbrev line3 : List (HloOp τ sig (Elt F)) :=
  [ nullary main_c_10 (constantI S_ 32 0#32),
    unary main_c_10 main_v23 (broadcastInDim S16384 ![] bcast_S_S16384 : (⟨S_, .i32⟩ : BufTy).Contents (Elt F) → (⟨S16384, .i32⟩ : BufTy).Contents (Elt F)),
    binary main_v4 main_v23 main_v24 (cmpi .eq : (⟨S16384, .i32⟩ : BufTy).Contents (Elt F) → (⟨S16384, .i32⟩ : BufTy).Contents (Elt F) → (⟨S16384, .i1⟩ : BufTy).Contents (Elt F)),
    unary main_v24 main_v25 (broadcastInDim S16384x1x1 ![0] bcast_S16384_S16384x1x1_0 : (⟨S16384, .i1⟩ : BufTy).Contents (Elt F) → (⟨S16384x1x1, .i1⟩ : BufTy).Contents (Elt F)),
    unary main_v25 main_v26 (broadcastInDim S16384x32x32 ![0, 1, 2] bcast_S16384x1x1_S16384x32x32_0_1_2 : (⟨S16384x1x1, .i1⟩ : BufTy).Contents (Elt F) → (⟨S16384x32x32, .i1⟩ : BufTy).Contents (Elt F)),
    binary main_v12 main_v26 main_v27 (andi : (⟨S16384x32x32, .i1⟩ : BufTy).Contents (Elt F) → (⟨S16384x32x32, .i1⟩ : BufTy).Contents (Elt F) → (⟨S16384x32x32, .i1⟩ : BufTy).Contents (Elt F)),
    nullary main_c_11 (constantI S_ 32 1#32),
    TRef.unary (TRef.of (T := ⟨S_, .i32⟩) main_c_11) (TRef.of (T := ⟨S_, .i32⟩) main_call5_v0) id,
    TRef.unary (TRef.of (T := ⟨S_, .i32⟩) main_call5_v0) (TRef.of (T := ⟨S16384x32x32, .i32⟩) main_call5_v1) (broadcastInDim S16384x32x32 ![] bcast_S_S16384x32x32),
    TRef.ternary (TRef.of (T := ⟨S16384x32x32, .i1⟩) main_v27) (TRef.of (T := ⟨S16384x32x32, .i32⟩) main_call5_v1) (TRef.of (T := ⟨S16384x32x32, .i32⟩) main_v8) (TRef.of (T := ⟨S16384x32x32, .i32⟩) main_v28) select,
    unary main_v25 main_v29 (broadcastInDim S16384x32x32 ![0, 1, 2] bcast_S16384x1x1_S16384x32x32_0_1_2 : (⟨S16384x1x1, .i1⟩ : BufTy).Contents (Elt F) → (⟨S16384x32x32, .i1⟩ : BufTy).Contents (Elt F)),
    binary main_v14 main_v29 main_v30 (andi : (⟨S16384x32x32, .i1⟩ : BufTy).Contents (Elt F) → (⟨S16384x32x32, .i1⟩ : BufTy).Contents (Elt F) → (⟨S16384x32x32, .i1⟩ : BufTy).Contents (Elt F)),
    nullary main_c_12 (constantI S_ 32 1#32),
    TRef.unary (TRef.of (T := ⟨S_, .i32⟩) main_c_12) (TRef.of (T := ⟨S_, .i32⟩) main_call6_v0) id,
    TRef.unary (TRef.of (T := ⟨S_, .i32⟩) main_call6_v0) (TRef.of (T := ⟨S16384x32x32, .i32⟩) main_call6_v1) (broadcastInDim S16384x32x32 ![] bcast_S_S16384x32x32),
    TRef.ternary (TRef.of (T := ⟨S16384x32x32, .i1⟩) main_v30) (TRef.of (T := ⟨S16384x32x32, .i32⟩) main_call6_v1) (TRef.of (T := ⟨S16384x32x32, .i32⟩) main_v28) (TRef.of (T := ⟨S16384x32x32, .i32⟩) main_v31) select,
    nullary main_c_13 (constantI S_ 32 1#32),
    unary main_c_13 main_v32 (broadcastInDim S16384 ![] bcast_S_S16384 : (⟨S_, .i32⟩ : BufTy).Contents (Elt F) → (⟨S16384, .i32⟩ : BufTy).Contents (Elt F)),
    binary main_v4 main_v32 main_v33 (cmpi .eq : (⟨S16384, .i32⟩ : BufTy).Contents (Elt F) → (⟨S16384, .i32⟩ : BufTy).Contents (Elt F) → (⟨S16384, .i1⟩ : BufTy).Contents (Elt F)),
    unary main_v33 main_v34 (broadcastInDim S16384x1x1 ![0] bcast_S16384_S16384x1x1_0 : (⟨S16384, .i1⟩ : BufTy).Contents (Elt F) → (⟨S16384x1x1, .i1⟩ : BufTy).Contents (Elt F)),
    unary main_v34 main_v35 (broadcastInDim S16384x32x32 ![0, 1, 2] bcast_S16384x1x1_S16384x32x32_0_1_2 : (⟨S16384x1x1, .i1⟩ : BufTy).Contents (Elt F) → (⟨S16384x32x32, .i1⟩ : BufTy).Contents (Elt F)),
    binary main_v14 main_v35 main_v36 (andi : (⟨S16384x32x32, .i1⟩ : BufTy).Contents (Elt F) → (⟨S16384x32x32, .i1⟩ : BufTy).Contents (Elt F) → (⟨S16384x32x32, .i1⟩ : BufTy).Contents (Elt F)),
    nullary main_c_14 (constantI S_ 32 1#32),
    TRef.unary (TRef.of (T := ⟨S_, .i32⟩) main_c_14) (TRef.of (T := ⟨S_, .i32⟩) main_call7_v0) id,
    TRef.unary (TRef.of (T := ⟨S_, .i32⟩) main_call7_v0) (TRef.of (T := ⟨S16384x32x32, .i32⟩) main_call7_v1) (broadcastInDim S16384x32x32 ![] bcast_S_S16384x32x32),
    TRef.ternary (TRef.of (T := ⟨S16384x32x32, .i1⟩) main_v36) (TRef.of (T := ⟨S16384x32x32, .i32⟩) main_call7_v1) (TRef.of (T := ⟨S16384x32x32, .i32⟩) main_v31) (TRef.of (T := ⟨S16384x32x32, .i32⟩) main_v37) select,
    nullary main_c_15 (constantI S_ 32 2#32),
    unary main_c_15 main_v38 (broadcastInDim S16384 ![] bcast_S_S16384 : (⟨S_, .i32⟩ : BufTy).Contents (Elt F) → (⟨S16384, .i32⟩ : BufTy).Contents (Elt F)),
    binary main_v4 main_v38 main_v39 (cmpi .eq : (⟨S16384, .i32⟩ : BufTy).Contents (Elt F) → (⟨S16384, .i32⟩ : BufTy).Contents (Elt F) → (⟨S16384, .i1⟩ : BufTy).Contents (Elt F)),
    unary main_v39 main_v40 (broadcastInDim S16384x1x1 ![0] bcast_S16384_S16384x1x1_0 : (⟨S16384, .i1⟩ : BufTy).Contents (Elt F) → (⟨S16384x1x1, .i1⟩ : BufTy).Contents (Elt F)),
    unary main_v40 main_v41 (broadcastInDim S16384x32x32 ![0, 1, 2] bcast_S16384x1x1_S16384x32x32_0_1_2 : (⟨S16384x1x1, .i1⟩ : BufTy).Contents (Elt F) → (⟨S16384x32x32, .i1⟩ : BufTy).Contents (Elt F)),
    binary main_v12 main_v41 main_v42 (andi : (⟨S16384x32x32, .i1⟩ : BufTy).Contents (Elt F) → (⟨S16384x32x32, .i1⟩ : BufTy).Contents (Elt F) → (⟨S16384x32x32, .i1⟩ : BufTy).Contents (Elt F)),
    nullary main_c_16 (constantI S_ 32 1#32),
    TRef.unary (TRef.of (T := ⟨S_, .i32⟩) main_c_16) (TRef.of (T := ⟨S_, .i32⟩) main_call8_v0) id,
    TRef.unary (TRef.of (T := ⟨S_, .i32⟩) main_call8_v0) (TRef.of (T := ⟨S16384x32x32, .i32⟩) main_call8_v1) (broadcastInDim S16384x32x32 ![] bcast_S_S16384x32x32),
    TRef.ternary (TRef.of (T := ⟨S16384x32x32, .i1⟩) main_v42) (TRef.of (T := ⟨S16384x32x32, .i32⟩) main_call8_v1) (TRef.of (T := ⟨S16384x32x32, .i32⟩) main_v37) (TRef.of (T := ⟨S16384x32x32, .i32⟩) main_v43) select ]

/-- The agent's two channels. -/
abbrev line4 : List (HloOp τ sig (Elt F)) :=
  [ nullary main_c_17 (constantI S_ 32 3#32),
    unary main_c_17 main_v44 (broadcastInDim S16384 ![] bcast_S_S16384 : (⟨S_, .i32⟩ : BufTy).Contents (Elt F) → (⟨S16384, .i32⟩ : BufTy).Contents (Elt F)),
    binary main_v4 main_v44 main_v45 (cmpi .eq : (⟨S16384, .i32⟩ : BufTy).Contents (Elt F) → (⟨S16384, .i32⟩ : BufTy).Contents (Elt F) → (⟨S16384, .i1⟩ : BufTy).Contents (Elt F)),
    unary main_v45 main_v46 (broadcastInDim S16384x1x1 ![0] bcast_S16384_S16384x1x1_0 : (⟨S16384, .i1⟩ : BufTy).Contents (Elt F) → (⟨S16384x1x1, .i1⟩ : BufTy).Contents (Elt F)),
    nullary main_c_18 (constantI S_ 32 0#32),
    unary main_c_18 main_v47 (broadcastInDim S16384 ![] bcast_S_S16384 : (⟨S_, .i32⟩ : BufTy).Contents (Elt F) → (⟨S16384, .i32⟩ : BufTy).Contents (Elt F)),
    reshape main_v1 main_v48 (rfl : (.i1 : EltTy) = .i1) shapeCasts_S16384x32x32_S16384x1024,
    reshape main_v12 main_v49 (rfl : (.i1 : EltTy) = .i1) shapeCasts_S16384x32x32_S16384x1024,
    binary main_v48 main_v49 main_v50 (andi : (⟨S16384x1024, .i1⟩ : BufTy).Contents (Elt F) → (⟨S16384x1024, .i1⟩ : BufTy).Contents (Elt F) → (⟨S16384x1024, .i1⟩ : BufTy).Contents (Elt F)),
    nullary main_c_19 (constantI S_ 1 0#1),
    binary main_v50 main_c_19 main_v51 ((fun x v => Host.reduce IntOp.ori x v reducesTo_S16384x1024_S16384_d1 h_S_) : (⟨S16384x1024, .i1⟩ : BufTy).Contents (Elt F) → (⟨S_, .i1⟩ : BufTy).Contents (Elt F) → (⟨S16384, .i1⟩ : BufTy).Contents (Elt F)),
    nullary main_c_20 (constantI S_ 32 3#32),
    TRef.unary (TRef.of (T := ⟨S_, .i32⟩) main_c_20) (TRef.of (T := ⟨S_, .i32⟩) main_call9_v0) id,
    TRef.unary (TRef.of (T := ⟨S_, .i32⟩) main_call9_v0) (TRef.of (T := ⟨S16384, .i32⟩) main_call9_v1) (broadcastInDim S16384 ![] bcast_S_S16384),
    TRef.ternary (TRef.of (T := ⟨S16384, .i1⟩) main_v51) (TRef.of (T := ⟨S16384, .i32⟩) main_call9_v1) (TRef.of (T := ⟨S16384, .i32⟩) main_v47) (TRef.of (T := ⟨S16384, .i32⟩) main_v52) select,
    reshape main_v14 main_v53 (rfl : (.i1 : EltTy) = .i1) shapeCasts_S16384x32x32_S16384x1024,
    binary main_v48 main_v53 main_v54 (andi : (⟨S16384x1024, .i1⟩ : BufTy).Contents (Elt F) → (⟨S16384x1024, .i1⟩ : BufTy).Contents (Elt F) → (⟨S16384x1024, .i1⟩ : BufTy).Contents (Elt F)),
    nullary main_c_21 (constantI S_ 1 0#1),
    binary main_v54 main_c_21 main_v55 ((fun x v => Host.reduce IntOp.ori x v reducesTo_S16384x1024_S16384_d1 h_S_) : (⟨S16384x1024, .i1⟩ : BufTy).Contents (Elt F) → (⟨S_, .i1⟩ : BufTy).Contents (Elt F) → (⟨S16384, .i1⟩ : BufTy).Contents (Elt F)),
    nullary main_c_22 (constantI S_ 32 2#32),
    TRef.unary (TRef.of (T := ⟨S_, .i32⟩) main_c_22) (TRef.of (T := ⟨S_, .i32⟩) main_call10_v0) id,
    TRef.unary (TRef.of (T := ⟨S_, .i32⟩) main_call10_v0) (TRef.of (T := ⟨S16384, .i32⟩) main_call10_v1) (broadcastInDim S16384 ![] bcast_S_S16384),
    TRef.ternary (TRef.of (T := ⟨S16384, .i1⟩) main_v55) (TRef.of (T := ⟨S16384, .i32⟩) main_call10_v1) (TRef.of (T := ⟨S16384, .i32⟩) main_v52) (TRef.of (T := ⟨S16384, .i32⟩) main_v56) select,
    reshape main_v10 main_v57 (rfl : (.i1 : EltTy) = .i1) shapeCasts_S16384x32x32_S16384x1024,
    binary main_v48 main_v57 main_v58 (andi : (⟨S16384x1024, .i1⟩ : BufTy).Contents (Elt F) → (⟨S16384x1024, .i1⟩ : BufTy).Contents (Elt F) → (⟨S16384x1024, .i1⟩ : BufTy).Contents (Elt F)),
    nullary main_c_23 (constantI S_ 1 0#1),
    binary main_v58 main_c_23 main_v59 ((fun x v => Host.reduce IntOp.ori x v reducesTo_S16384x1024_S16384_d1 h_S_) : (⟨S16384x1024, .i1⟩ : BufTy).Contents (Elt F) → (⟨S_, .i1⟩ : BufTy).Contents (Elt F) → (⟨S16384, .i1⟩ : BufTy).Contents (Elt F)),
    nullary main_c_24 (constantI S_ 32 4#32),
    TRef.unary (TRef.of (T := ⟨S_, .i32⟩) main_c_24) (TRef.of (T := ⟨S_, .i32⟩) main_call11_v0) id,
    TRef.unary (TRef.of (T := ⟨S_, .i32⟩) main_call11_v0) (TRef.of (T := ⟨S16384, .i32⟩) main_call11_v1) (broadcastInDim S16384 ![] bcast_S_S16384),
    TRef.ternary (TRef.of (T := ⟨S16384, .i1⟩) main_v59) (TRef.of (T := ⟨S16384, .i32⟩) main_call11_v1) (TRef.of (T := ⟨S16384, .i32⟩) main_v56) (TRef.of (T := ⟨S16384, .i32⟩) main_v60) select,
    reshape main_v16 main_v61 (rfl : (.i1 : EltTy) = .i1) shapeCasts_S16384x32x32_S16384x1024,
    binary main_v48 main_v61 main_v62 (andi : (⟨S16384x1024, .i1⟩ : BufTy).Contents (Elt F) → (⟨S16384x1024, .i1⟩ : BufTy).Contents (Elt F) → (⟨S16384x1024, .i1⟩ : BufTy).Contents (Elt F)),
    nullary main_c_25 (constantI S_ 1 0#1),
    binary main_v62 main_c_25 main_v63 ((fun x v => Host.reduce IntOp.ori x v reducesTo_S16384x1024_S16384_d1 h_S_) : (⟨S16384x1024, .i1⟩ : BufTy).Contents (Elt F) → (⟨S_, .i1⟩ : BufTy).Contents (Elt F) → (⟨S16384, .i1⟩ : BufTy).Contents (Elt F)),
    nullary main_c_26 (constantI S_ 32 1#32),
    TRef.unary (TRef.of (T := ⟨S_, .i32⟩) main_c_26) (TRef.of (T := ⟨S_, .i32⟩) main_call12_v0) id,
    TRef.unary (TRef.of (T := ⟨S_, .i32⟩) main_call12_v0) (TRef.of (T := ⟨S16384, .i32⟩) main_call12_v1) (broadcastInDim S16384 ![] bcast_S_S16384),
    TRef.ternary (TRef.of (T := ⟨S16384, .i1⟩) main_v63) (TRef.of (T := ⟨S16384, .i32⟩) main_call12_v1) (TRef.of (T := ⟨S16384, .i32⟩) main_v60) (TRef.of (T := ⟨S16384, .i32⟩) main_v64) select,
    nullary main_c_27 (constantI S_ 32 10#32),
    unary main_c_27 main_v65 (broadcastInDim S16384 ![] bcast_S_S16384 : (⟨S_, .i32⟩ : BufTy).Contents (Elt F) → (⟨S16384, .i32⟩ : BufTy).Contents (Elt F)),
    unary main_v65 main_v66 (broadcastInDim S16384x1 ![0] bcast_S16384_S16384x1_0 : (⟨S16384, .i32⟩ : BufTy).Contents (Elt F) → (⟨S16384x1, .i32⟩ : BufTy).Contents (Elt F)),
    unary main_v64 main_v67 (broadcastInDim S16384x1 ![0] bcast_S16384_S16384x1_0 : (⟨S16384, .i32⟩ : BufTy).Contents (Elt F) → (⟨S16384x1, .i32⟩ : BufTy).Contents (Elt F)),
    binary main_v66 main_v67 main_v68 Stage.joinCols ]

/-- The result: the agent placed on the grid, cut to bytes. -/
abbrev line5 : List (HloOp τ sig (Elt F)) :=
  [ unary main_v43 main_v69 (broadcastInDim S16384x32x32x1 ![0, 1, 2] bcast_S16384x32x32_S16384x32x32x1_0_1_2 : (⟨S16384x32x32, .i32⟩ : BufTy).Contents (Elt F) → (⟨S16384x32x32x1, .i32⟩ : BufTy).Contents (Elt F)),
    unary main_v22 main_v70 (broadcastInDim S16384x32x32x1 ![0, 1, 2] bcast_S16384x32x32_S16384x32x32x1_0_1_2 : (⟨S16384x32x32, .i32⟩ : BufTy).Contents (Elt F) → (⟨S16384x32x32x1, .i32⟩ : BufTy).Contents (Elt F)),
    binary main_v69 main_v70 main_v71 Stage.join,
    unary main_v1 main_v72 (broadcastInDim S16384x32x32x1 ![0, 1, 2] bcast_S16384x32x32_S16384x32x32x1_0_1_2 : (⟨S16384x32x32, .i1⟩ : BufTy).Contents (Elt F) → (⟨S16384x32x32x1, .i1⟩ : BufTy).Contents (Elt F)),
    unary main_v68 main_v73 (broadcastInDim S16384x1x1x2 ![0, 3] bcast_S16384x2_S16384x1x1x2_0_3 : (⟨S16384x2, .i32⟩ : BufTy).Contents (Elt F) → (⟨S16384x1x1x2, .i32⟩ : BufTy).Contents (Elt F)),
    TRef.unary (TRef.of (T := ⟨S16384x32x32x1, .i1⟩) main_v72) (TRef.of (T := ⟨S16384x32x32x2, .i1⟩) main_call13_v0) (broadcastInDim S16384x32x32x2 ![0, 1, 2, 3] bcast_S16384x32x32x1_S16384x32x32x2_0_1_2_3),
    TRef.unary (TRef.of (T := ⟨S16384x1x1x2, .i32⟩) main_v73) (TRef.of (T := ⟨S16384x32x32x2, .i32⟩) main_call13_v1) (broadcastInDim S16384x32x32x2 ![0, 1, 2, 3] bcast_S16384x1x1x2_S16384x32x32x2_0_1_2_3),
    TRef.ternary (TRef.of (T := ⟨S16384x32x32x2, .i1⟩) main_call13_v0) (TRef.of (T := ⟨S16384x32x32x2, .i32⟩) main_call13_v1) (TRef.of (T := ⟨S16384x32x32x2, .i32⟩) main_v71) (TRef.of (T := ⟨S16384x32x32x2, .i32⟩) main_v74) select,
    unary main_v74 main_v75 ((trunci 8 · natLt_8_32) : (⟨S16384x32x32x2, .i32⟩ : BufTy).Contents (Elt F) → (⟨S16384x32x32x2, .i8⟩ : BufTy).Contents (Elt F)) ]

/-- Line 1 leaves where the agent is in `main_v1`. -/
theorem line1_main_v1 (V : Valuation τ sig (Elt F)) :
    after line1 V (Proc.devRef .tc main_v1) = Stage.here (V (Proc.devRef .tc main_arg1)) := by
  simp only [line1, TRef.reshape, TRef.ternary, TRef.unary, TRef.quaternary, TRef.nullary, TRef.toBuf, TRef.ofBuf, cast_eq]
  after_reads_simp
  rfl

/-- Line 1 leaves the agent's direction in `main_v4`. -/
theorem line1_main_v4 (V : Valuation τ sig (Elt F)) :
    after line1 V (Proc.devRef .tc main_v4) = Stage.heading (V (Proc.devRef .tc main_arg1)) := by
  simp only [line1, TRef.reshape, TRef.ternary, TRef.unary, TRef.quaternary, TRef.nullary, TRef.toBuf, TRef.ofBuf, cast_eq]
  after_reads_simp
  rfl

/-- Line 2 leaves the objects in `main_v8`. -/
theorem line2_main_v8 (V : Valuation τ sig (Elt F)) :
    after line2 V (Proc.devRef .tc main_v8) = Stage.object (V (Proc.devRef .tc main_arg0)) := by
  simp only [line2, TRef.reshape, TRef.ternary, TRef.unary, TRef.quaternary, TRef.nullary, TRef.toBuf, TRef.ofBuf, cast_eq]
  after_reads_simp
  rfl

/-- Line 2 leaves where object 9 is in `main_v10`. -/
theorem line2_main_v10 (V : Valuation τ sig (Elt F)) :
    after line2 V (Proc.devRef .tc main_v10) = Stage.isKind (V (Proc.devRef .tc main_arg0)) 9#32 := by
  simp only [line2, TRef.reshape, TRef.ternary, TRef.unary, TRef.quaternary, TRef.nullary, TRef.toBuf, TRef.ofBuf, cast_eq]
  after_reads_simp
  rfl

/-- Line 2 leaves where object 11 is in `main_v12`. -/
theorem line2_main_v12 (V : Valuation τ sig (Elt F)) :
    after line2 V (Proc.devRef .tc main_v12) = Stage.isKind (V (Proc.devRef .tc main_arg0)) 11#32 := by
  simp only [line2, TRef.reshape, TRef.ternary, TRef.unary, TRef.quaternary, TRef.nullary, TRef.toBuf, TRef.ofBuf, cast_eq]
  after_reads_simp
  rfl

/-- Line 2 leaves where object 12 is in `main_v14`. -/
theorem line2_main_v14 (V : Valuation τ sig (Elt F)) :
    after line2 V (Proc.devRef .tc main_v14) = Stage.isKind (V (Proc.devRef .tc main_arg0)) 12#32 := by
  simp only [line2, TRef.reshape, TRef.ternary, TRef.unary, TRef.quaternary, TRef.nullary, TRef.toBuf, TRef.ofBuf, cast_eq]
  after_reads_simp
  rfl

/-- Line 2 leaves where object 13 is in `main_v16`. -/
theorem line2_main_v16 (V : Valuation τ sig (Elt F)) :
    after line2 V (Proc.devRef .tc main_v16) = Stage.isKind (V (Proc.devRef .tc main_arg0)) 13#32 := by
  simp only [line2, TRef.reshape, TRef.ternary, TRef.unary, TRef.quaternary, TRef.nullary, TRef.toBuf, TRef.ofBuf, cast_eq]
  after_reads_simp
  rfl

/-- Line 2 leaves the colours in `main_v22`. -/
theorem line2_main_v22 (V : Valuation τ sig (Elt F)) :
    after line2 V (Proc.devRef .tc main_v22) = Stage.colour (V (Proc.devRef .tc main_arg0)) := by
  simp only [line2, TRef.reshape, TRef.ternary, TRef.unary, TRef.quaternary, TRef.nullary, TRef.toBuf, TRef.ofBuf, cast_eq]
  after_reads_simp
  rfl

/-- Line 3 leaves the objects left in `main_v43`. -/
theorem line3_main_v43 (V : Valuation τ sig (Elt F)) :
    after line3 V (Proc.devRef .tc main_v43) = Stage.sweep (V (Proc.devRef .tc main_v8)) (V (Proc.devRef .tc main_v12)) (V (Proc.devRef .tc main_v14)) (V (Proc.devRef .tc main_v4)) := by
  simp only [line3, TRef.reshape, TRef.ternary, TRef.unary, TRef.quaternary, TRef.nullary, TRef.toBuf, TRef.ofBuf, cast_eq]
  after_reads_simp
  rfl

/-- Line 4 leaves the agent's channels in `main_v68`. -/
theorem line4_main_v68 (V : Valuation τ sig (Elt F)) :
    after line4 V (Proc.devRef .tc main_v68) = Stage.agentPair (Stage.tint (V (Proc.devRef .tc main_v1)) (V (Proc.devRef .tc main_v10)) (V (Proc.devRef .tc main_v12)) (V (Proc.devRef .tc main_v14)) (V (Proc.devRef .tc main_v16))) := by
  simp only [line4, TRef.reshape, TRef.ternary, TRef.unary, TRef.quaternary, TRef.nullary, TRef.toBuf, TRef.ofBuf, cast_eq]
  after_reads_simp
  rfl

/-- Line 5 leaves the result in `main_v75`. -/
theorem line5_main_v75 (V : Valuation τ sig (Elt F)) :
    after line5 V (Proc.devRef .tc main_v75) = Stage.place (V (Proc.devRef .tc main_v1)) (V (Proc.devRef .tc main_v68)) (V (Proc.devRef .tc main_v43)) (V (Proc.devRef .tc main_v22)) := by
  simp only [line5, TRef.reshape, TRef.ternary, TRef.unary, TRef.quaternary, TRef.nullary, TRef.toBuf, TRef.ofBuf, cast_eq]
  after_reads_simp
  rfl

/-- Line 1 leaves these buffers alone. -/
theorem line1_keeps (V : Valuation τ sig (Elt F)) :
    after line1 V (Proc.devRef .tc main_arg0) = V (Proc.devRef .tc main_arg0)
    ∧ after line1 V (Proc.devRef .tc main_arg1) = V (Proc.devRef .tc main_arg1) := by
  simp only [line1, TRef.reshape, TRef.ternary, TRef.unary, TRef.quaternary, TRef.nullary, TRef.toBuf, TRef.ofBuf, cast_eq]
  after_reads_simp
  simp only [and_self]

/-- Line 2 leaves these buffers alone. -/
theorem line2_keeps (V : Valuation τ sig (Elt F)) :
    after line2 V (Proc.devRef .tc main_arg0) = V (Proc.devRef .tc main_arg0)
    ∧ after line2 V (Proc.devRef .tc main_arg1) = V (Proc.devRef .tc main_arg1)
    ∧ after line2 V (Proc.devRef .tc main_v1) = V (Proc.devRef .tc main_v1)
    ∧ after line2 V (Proc.devRef .tc main_v4) = V (Proc.devRef .tc main_v4) := by
  simp only [line2, TRef.reshape, TRef.ternary, TRef.unary, TRef.quaternary, TRef.nullary, TRef.toBuf, TRef.ofBuf, cast_eq]
  after_reads_simp
  simp only [and_self]

/-- Line 3 leaves these buffers alone. -/
theorem line3_keeps (V : Valuation τ sig (Elt F)) :
    after line3 V (Proc.devRef .tc main_arg0) = V (Proc.devRef .tc main_arg0)
    ∧ after line3 V (Proc.devRef .tc main_arg1) = V (Proc.devRef .tc main_arg1)
    ∧ after line3 V (Proc.devRef .tc main_v1) = V (Proc.devRef .tc main_v1)
    ∧ after line3 V (Proc.devRef .tc main_v10) = V (Proc.devRef .tc main_v10)
    ∧ after line3 V (Proc.devRef .tc main_v12) = V (Proc.devRef .tc main_v12)
    ∧ after line3 V (Proc.devRef .tc main_v14) = V (Proc.devRef .tc main_v14)
    ∧ after line3 V (Proc.devRef .tc main_v16) = V (Proc.devRef .tc main_v16)
    ∧ after line3 V (Proc.devRef .tc main_v22) = V (Proc.devRef .tc main_v22) := by
  simp only [line3, TRef.reshape, TRef.ternary, TRef.unary, TRef.quaternary, TRef.nullary, TRef.toBuf, TRef.ofBuf, cast_eq]
  after_reads_simp
  simp only [and_self]

/-- Line 4 leaves these buffers alone. -/
theorem line4_keeps (V : Valuation τ sig (Elt F)) :
    after line4 V (Proc.devRef .tc main_arg0) = V (Proc.devRef .tc main_arg0)
    ∧ after line4 V (Proc.devRef .tc main_arg1) = V (Proc.devRef .tc main_arg1)
    ∧ after line4 V (Proc.devRef .tc main_v1) = V (Proc.devRef .tc main_v1)
    ∧ after line4 V (Proc.devRef .tc main_v22) = V (Proc.devRef .tc main_v22)
    ∧ after line4 V (Proc.devRef .tc main_v43) = V (Proc.devRef .tc main_v43) := by
  simp only [line4, TRef.reshape, TRef.ternary, TRef.unary, TRef.quaternary, TRef.nullary, TRef.toBuf, TRef.ofBuf, cast_eq]
  after_reads_simp
  simp only [and_self]

/-- Line 5 leaves these buffers alone. -/
theorem line5_keeps (V : Valuation τ sig (Elt F)) :
    after line5 V (Proc.devRef .tc main_arg0) = V (Proc.devRef .tc main_arg0)
    ∧ after line5 V (Proc.devRef .tc main_arg1) = V (Proc.devRef .tc main_arg1) := by
  simp only [line5, TRef.reshape, TRef.ternary, TRef.unary, TRef.quaternary, TRef.nullary, TRef.toBuf, TRef.ofBuf, cast_eq]
  after_reads_simp
  simp only [and_self]

/-- The five lines in order. -/
abbrev ops : List (HloOp τ sig (Elt F)) := line1 ++ (line2 ++ (line3 ++ (line4 ++ line5)))

/-- The five lines leave the reference's result in the result array and the arguments as they were. -/
theorem after_ops (V : Valuation τ sig (Elt F)) :
    after ops V (Proc.devRef .tc main_v75)
      = Stage.refOut (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  unfold ops
  simp only [after_append]
  obtain ⟨a10, a11⟩ := line1_keeps V
  obtain ⟨a20, a21, a2v1, a2v4⟩ := line2_keeps (after line1 V)
  obtain ⟨a30, a31, a3v1, a3v10, a3v12, a3v14, a3v16, a3v22⟩ := line3_keeps (after line2 (after line1 V))
  obtain ⟨a40, a41, a4v1, a4v22, a4v43⟩ := line4_keeps (after line3 (after line2 (after line1 V)))
  obtain ⟨a50, a51⟩ := line5_keeps (after line4 (after line3 (after line2 (after line1 V))))
  refine ⟨?_, ?_, ?_⟩
  · rw [line5_main_v75, a4v1, a4v22, a4v43, line4_main_v68, line3_main_v43, a3v1, a3v10, a3v12, a3v14, a3v16, a3v22,
      line2_main_v8, line2_main_v10, line2_main_v12, line2_main_v14, line2_main_v16, line2_main_v22, a2v1, a2v4,
      line1_main_v1, line1_main_v4, a10]
    rfl
  · rw [a50, a40, a30, a20, a10]
  · rw [a51, a41, a31, a21, a11]

set_option maxHeartbeats 40000000 in
/-- @main is the five lines in order. -/
theorem main_eq (c : Dev nD) : main (F := F) c = seq ops := rfl

/-- Every operation of a line touches the TensorCore's buffers. -/
theorem ops_sub : (ops : List (HloOp τ sig (Elt F))).Forall fun op => op.bufs ⊆ tcRefs τ sig := by
  simp

/-- Every operation of a line determines its results. -/
theorem ops_fresh : ∀ op ∈ (ops : List (HloOp τ sig (Elt F))), op.fresh = ∅ := by
  intro op h
  (repeat (cases h with | head => rfl | tail _ h => ?_)); exact nomatch h

/-- The reference ends with `refOut` of its arguments in the result array, the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v75)
        = Stage.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v75).trans (after_ops _).1, (h c main_arg0).trans (after_ops _).2.1,
      (h c main_arg1).trans (after_ops _).2.2⟩)
    (run_seq (by decide) (by decide) defs main (fun _ => ops) main_eq (fun _ => ops_sub) m ρ (fun _ => ops_fresh))

/-- The reference leaves its arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

end Cert.ReferenceIdeal.Value

end
-- ==== Proof.RefRead.lean ====
/-
  The reference's stages at an index, for a batch element whose row of the mask has its one set entry at `p`: the
  agent stands in cell `p / 4` (row `p / 128`, column `p / 4 % 32`) and faces `p % 4`.
-/
module

public import proofs.«01_k».proof.Proof.RefStages
public import proofs.«01_k».proof.Proof.OneHot
public import Idealize.ShloMosaic.Lib.Pipeline.Value

@[expose] public section

noncomputable section

namespace Cert.ReferenceIdeal.Stage

open Cert.ReferenceIdeal Cert.ReferenceIdeal.Gen Idealize.ShloMosaic Idealize.ShloMosaic.ValueIdx Cert.Spot

variable (l : IVec S16384x32x32x1 32) (a : IVec S16384x4096 1) (b : Fin 16384) (p : Fin 4096)

/-- The agent's row. -/
def row (p : Fin 4096) : Fin 32 := ⟨p.val / 128, by omega⟩

/-- The agent's column. -/
def col (p : Fin 4096) : Fin 32 := ⟨p.val / 4 % 32, by omega⟩

/-- The agent's direction. -/
def dir (p : Fin 4096) : Fin 4 := ⟨p.val % 4, by omega⟩

/-- An entry of the mask by batch element, cell and direction is the row's entry at their joint number. -/
theorem mask4_apply (i j : Fin 32) (d : Fin 4) :
    mask4 a (ix4 b i j d) = a (ix2 b ⟨(i.val * 32 + j.val) * 4 + d.val, by omega⟩) := by
  unfold mask4
  refine shapeCast_apply _ _ _ _ ?_
  rewrite [Shape.rowMajor_val_two, Shape.rowMajor_val_four]
  show b.val * 4096 + ((i.val * 32 + j.val) * 4 + d.val) = ((b.val * 32 + i.val) * 32 + j.val) * 4 + d.val
  omega

/-- The agent's own entry is set. -/
theorem mask4_agent (h : Agent a b p) : mask4 a (ix4 b (row p) (col p) (dir p)) = 1#1 := by
  rw [mask4_apply, h, if_pos]
  apply Fin.ext
  show (p.val / 128 * 32 + p.val / 4 % 32) * 4 + p.val % 4 = p.val
  omega

/-- Every other entry of the row is clear. -/
theorem mask4_other (h : Agent a b p) (i j : Fin 32) (d : Fin 4) (hne : ¬(i = row p ∧ j = col p ∧ d = dir p)) :
    mask4 a (ix4 b i j d) = 0#1 := by
  rw [mask4_apply, h, if_neg]
  intro e
  have e' : (i.val * 32 + j.val) * 4 + d.val = p.val := congrArg Fin.val e
  refine hne ⟨Fin.ext ?_, Fin.ext ?_, Fin.ext ?_⟩
  · show i.val = p.val / 128; omega
  · show j.val = p.val / 4 % 32; omega
  · show d.val = p.val % 4; omega

/-- The agent stands in its own cell and in no other. -/
theorem here_apply (h : Agent a b p) (i j : Fin 32) :
    here a (ix3 b i j) = if i = row p ∧ j = col p then 1#1 else 0#1 := by
  have hd : ∀ k : S16384x32x32x4.Idx, reducesTo_S16384x32x32x4_S16384x32x32_d3.drop k = ix3 b i j →
      ∃ d : Fin 4, k = ix4 b i j d := fun k e => by
    have e0 := reducesTo_S16384x32x32x4_S16384x32x32_d3.drop_apply_val_of_eq k 0 0
    have e1 := reducesTo_S16384x32x32x4_S16384x32x32_d3.drop_apply_val_of_eq k 1 1
    have e2 := reducesTo_S16384x32x32x4_S16384x32x32_d3.drop_apply_val_of_eq k 2 2
    rw [e] at e0 e1 e2
    refine ⟨k 3, funext fun x => ?_⟩
    match x with
    | ⟨0, _⟩ => exact Fin.ext e0.symm
    | ⟨1, _⟩ => exact Fin.ext e1.symm
    | ⟨2, _⟩ => exact Fin.ext e2.symm
    | ⟨3, _⟩ => rfl
  unfold here
  rw [Host.reduce_eq_fold]
  show Finset.fold IntOp.ori 0#1 _ _ = _
  by_cases hc : i = row p ∧ j = col p
  · rw [if_pos hc]
    refine (fold_one IntOp.ori 0#1 (fun x => by simp [IntOp.ori]) _ _ (ix4 b i j (dir p)) ?_ ?_).trans ?_
    · refine Finset.mem_filter.2 ⟨Finset.mem_univ _, funext fun x => Fin.ext ?_⟩
      match x with
      | ⟨0, _⟩ => exact reducesTo_S16384x32x32x4_S16384x32x32_d3.drop_apply_val_of_eq _ 0 0
      | ⟨1, _⟩ => exact reducesTo_S16384x32x32x4_S16384x32x32_d3.drop_apply_val_of_eq _ 1 1
      | ⟨2, _⟩ => exact reducesTo_S16384x32x32x4_S16384x32x32_d3.drop_apply_val_of_eq _ 2 2
    · intro k hk hne
      obtain ⟨d, rfl⟩ := hd k (Finset.mem_filter.1 hk).2
      exact mask4_other a b p h i j d fun hx => hne (by rw [hx.2.2])
    · rw [hc.1, hc.2]; exact mask4_agent a b p h
  · rw [if_neg hc]
    refine fold_none IntOp.ori 0#1 (by decide) _ _ fun k hk => ?_
    obtain ⟨d, rfl⟩ := hd k (Finset.mem_filter.1 hk).2
    exact mask4_other a b p h i j d fun hx => hc ⟨hx.1, hx.2.1⟩

/-- One mask entry is set in the agent's direction and none in the others. -/
theorem counts_apply (h : Agent a b p) (d : Fin 4) : counts a (ix2 b d) = if d = dir p then 1#32 else 0#32 := by
  have hd : ∀ k : S16384x32x32x4.Idx, reducesTo_S16384x32x32x4_S16384x4_d1_2.drop k = ix2 b d →
      ∃ i j : Fin 32, k = ix4 b i j d := fun k e => by
    have e0 := reducesTo_S16384x32x32x4_S16384x4_d1_2.drop_apply_val_of_eq k 0 0
    have e1 := reducesTo_S16384x32x32x4_S16384x4_d1_2.drop_apply_val_of_eq k 1 3
    rw [e] at e0 e1
    refine ⟨k 1, k 2, funext fun x => ?_⟩
    match x with
    | ⟨0, _⟩ => exact Fin.ext e0.symm
    | ⟨1, _⟩ => rfl
    | ⟨2, _⟩ => rfl
    | ⟨3, _⟩ => exact Fin.ext e1.symm
  unfold counts
  rw [Host.reduce_eq_fold]
  show Finset.fold IntOp.addi 0#32 _ _ = _
  by_cases hc : d = dir p
  · rw [if_pos hc]
    refine (fold_one IntOp.addi 0#32 (fun x => by simp [IntOp.addi]) _ _ (ix4 b (row p) (col p) d) ?_ ?_).trans ?_
    · refine Finset.mem_filter.2 ⟨Finset.mem_univ _, funext fun x => Fin.ext ?_⟩
      match x with
      | ⟨0, _⟩ => exact reducesTo_S16384x32x32x4_S16384x4_d1_2.drop_apply_val_of_eq _ 0 0
      | ⟨1, _⟩ => exact reducesTo_S16384x32x32x4_S16384x4_d1_2.drop_apply_val_of_eq _ 1 3
    · intro k hk hne
      obtain ⟨i, j, rfl⟩ := hd k (Finset.mem_filter.1 hk).2
      rw [extui_apply, mask4_other a b p h i j d fun hx => hne (by rw [hx.1, hx.2.1])]
      rfl
    · rw [extui_apply, hc, mask4_agent a b p h]; rfl
  · rw [if_neg hc]
    refine fold_none IntOp.addi 0#32 (by decide) _ _ fun k hk => ?_
    obtain ⟨i, j, rfl⟩ := hd k (Finset.mem_filter.1 hk).2
    rw [extui_apply, mask4_other a b p h i j d fun hx => hc hx.2.2]
    rfl

/-- The arg-max reducer over pairs (count, direction) whose only count of one is direction `q`'s, the other counts
    zero, ends at `q`: whatever the order it meets them in. -/
theorem foldl_argmax (q : BitVec 32) : ∀ (L : List (BitVec 32 × BitVec 32)) (s : BitVec 32 × BitVec 32),
    (∀ x ∈ L, x = (1#32, q) ∨ x.1 = 0#32) →
    (s = (1#32, q) ∨ ((s.1 = 0#32 ∨ s.1 = 2147483648#32) ∧ (1#32, q) ∈ L)) →
    L.foldl reducer_argmax_i32_i32 s = (1#32, q)
  | [], s, _, hs => by
    rcases hs with hs | ⟨_, hs⟩
    · exact hs
    · exact absurd hs List.not_mem_nil
  | x :: L, s, hL, hs => by
    rw [List.foldl_cons]
    refine foldl_argmax q L _ (fun y hy => hL y (List.mem_cons_of_mem _ hy)) ?_
    obtain ⟨x1, x2⟩ := x
    obtain ⟨s1, s2⟩ := s
    rcases hs with hs | ⟨hs, hm⟩
    · left
      obtain ⟨rfl, rfl⟩ := Prod.mk.inj hs
      rcases hL _ List.mem_cons_self with hx | hx
      · obtain ⟨rfl, rfl⟩ := Prod.mk.inj hx
        simp [reducer_argmax_i32_i32, IntOp.cmpi, IntOp.ori, IntOp.andi, Scalar.select]
      · change x1 = 0#32 at hx; subst hx
        simp [reducer_argmax_i32_i32, IntOp.cmpi, IntOp.ori, IntOp.andi, Scalar.select]
    · change s1 = 0#32 ∨ s1 = 2147483648#32 at hs
      rcases hL _ List.mem_cons_self with hx | hx
      · left
        obtain ⟨rfl, rfl⟩ := Prod.mk.inj hx
        rcases hs with rfl | rfl <;> simp [reducer_argmax_i32_i32, IntOp.cmpi, IntOp.ori, IntOp.andi, Scalar.select]
      · change x1 = 0#32 at hx; subst hx
        right
        refine ⟨.inl ?_, ?_⟩
        · rcases hs with rfl | rfl <;> simp [reducer_argmax_i32_i32, IntOp.cmpi, IntOp.ori, IntOp.andi, Scalar.select]
        · rcases List.mem_cons.1 hm with e | e
          · exact absurd (congrArg Prod.fst e) (by simp)
          · exact e

/-- The pair at an index of the fiber is among the fiber's pairs. -/
theorem mem_fiber {s t : Shape} {axes : List (Fin s.rank)} {α β : Type} (x : s.Idx → α) (y : s.Idx → β)
    (h : s.ReducesTo axes t) (i : s.Idx) (j : t.Idx) (hi : h.drop i = j) : (x i, y i) ∈ Host.argReduceFiber x y h j := by
  unfold Host.argReduceFiber
  rw [List.mem_map]
  refine ⟨s.rowMajor i, ?_, ?_⟩
  · rw [List.mem_filter]
    exact ⟨List.mem_finRange _, by simp [hi]⟩
  · simp

/-- The reference's arg-max finds the agent's direction. -/
theorem heading_apply (h : Agent a b p) : heading a (ix1 b) = BitVec.ofNat 32 (dir p).val := by
  unfold heading
  rw [Host.reduce2_eq_foldl_fiber]
  refine congrArg Prod.snd (foldl_argmax (BitVec.ofNat 32 (dir p).val) _ _ ?_ (.inr ⟨.inr rfl, ?_⟩))
  · intro x hx
    obtain ⟨n, hn, rfl⟩ := List.mem_map.1 hx
    have hd : reducesTo_S16384x4_S16384_d1.drop (S16384x4.rowMajor.symm n) = ix1 b := by
      simpa using (List.mem_filter.1 hn).2
    generalize S16384x4.rowMajor.symm n = k at hd
    have e0 := reducesTo_S16384x4_S16384_d1.drop_apply_val_of_eq k 0 0
    rw [hd] at e0
    obtain ⟨d, rfl⟩ : ∃ d : Fin 4, k = ix2 b d := ⟨k 1, by
      funext x
      match x with
      | ⟨0, _⟩ => exact Fin.ext e0.symm
      | ⟨1, _⟩ => rfl⟩
    have hc := counts_apply a b p h d
    by_cases hq : d = dir p
    · left
      rw [hc, if_pos hq]
      show (1#32, BitVec.ofNat 32 d.val) = _
      rw [hq]
    · right
      rw [hc, if_neg hq]
  · have hm := mem_fiber (counts a) (iotaInDim S16384x4 32 1) reducesTo_S16384x4_S16384_d1 (ix2 b (dir p)) (ix1 b)
      (funext fun x => match x with
        | ⟨0, _⟩ => Fin.ext (reducesTo_S16384x4_S16384_d1.drop_apply_val_of_eq (ix2 b (dir p)) 0 0))
    have hi : iotaInDim S16384x4 32 1 (ix2 b (dir p)) = BitVec.ofNat 32 (dir p).val := rfl
    rw [counts_apply a b p h, if_pos rfl, hi] at hm
    exact hm

end Cert.ReferenceIdeal.Stage

end
-- ==== Proof.RefCell.lean ====
/-
  The reference's result at an index, under one agent per batch element: the cell's byte.
-/
module

public import proofs.«01_k».proof.Proof.RefRead
public import proofs.«01_k».proof.Proof.Cell

@[expose] public section

noncomputable section

namespace Cert.ReferenceIdeal.Stage

open Cert.ReferenceIdeal Cert.ReferenceIdeal.Gen Idealize.ShloMosaic Idealize.ShloMosaic.ValueIdx Cert.Spot

variable (l : IVec S16384x32x32x1 32) (a : IVec S16384x4096 1) (b : Fin 16384) (p : Fin 4096)

/-- A constant grid holds its word everywhere. -/
theorem grid_apply (k : BitVec 32) (i : S16384x32x32.Idx) : grid k i = k := rfl

/-- A constant vector holds its word everywhere. -/
theorem per_apply (k : BitVec 32) (i : S16384.Idx) : per k i = k := rfl

/-- Two channels side by side: channel 0 is the first, channel 1 the second. -/
theorem join_apply (x y : IVec S16384x32x32x1 32) (i j : Fin 32) (ch : Fin 2) :
    join x y (ix4 b i j ch)
      = if ch = 0 then x (ix4 b i j (0 : Fin 1)) else y (ix4 b i j (0 : Fin 1)) := by
  match ch with
  | ⟨0, _⟩ =>
    exact concatenate_pair_apply_left (t := S16384x32x32x2) 3 x y _ (ix4 b i j (0 : Fin 2)) rfl (ix4 b i j (0 : Fin 1))
      (fun a => by match a with
        | ⟨0, _⟩ => rfl
        | ⟨1, _⟩ => rfl
        | ⟨2, _⟩ => rfl
        | ⟨3, _⟩ => rfl)
  | ⟨1, _⟩ =>
    exact concatenate_pair_apply_right (t := S16384x32x32x2) 3 x y _ (ix4 b i j (1 : Fin 2)) rfl rfl (ix4 b i j (0 : Fin 1))
      (fun a ha => by match a with
        | ⟨0, _⟩ => rfl
        | ⟨1, _⟩ => rfl
        | ⟨2, _⟩ => rfl
        | ⟨3, _⟩ => exact absurd rfl ha) rfl

/-- Two columns side by side. -/
theorem joinCols_apply (x y : IVec S16384x1 32) (ch : Fin 2) :
    joinCols x y (ix2 b ch)
      = if ch = 0 then x (ix2 b (0 : Fin 1)) else y (ix2 b (0 : Fin 1)) := by
  match ch with
  | ⟨0, _⟩ =>
    exact concatenate_pair_apply_left (t := S16384x2) 1 x y _ (ix2 b (0 : Fin 2)) rfl (ix2 b (0 : Fin 1))
      (fun a => by match a with
        | ⟨0, _⟩ => rfl
        | ⟨1, _⟩ => rfl)
  | ⟨1, _⟩ =>
    exact concatenate_pair_apply_right (t := S16384x2) 1 x y _ (ix2 b (1 : Fin 2)) rfl rfl (ix2 b (0 : Fin 1))
      (fun a ha => by match a with
        | ⟨0, _⟩ => rfl
        | ⟨1, _⟩ => exact absurd rfl ha) rfl

/-- Channel 0 is the layout. -/
theorem object_apply (i j : Fin 32) : object l (ix3 b i j) = l (ix4 b i j 0) := by
  unfold object
  refine Eq.trans (shapeCast_apply _ _ _ (ix4 b i j (0 : Fin 1)) ?_) ?_
  · rewrite [Shape.rowMajor_val_three, Shape.rowMajor_val_four]
    show ((b.val * 32 + i.val) * 32 + j.val) * 1 + 0 = (b.val * 32 + i.val) * 32 + j.val
    omega
  refine Eq.trans (extractStridedSlice_apply _ _ _ _ (ix4 b i j (0 : Fin 2)) ?_) ?_
  · intro x; fin_cases x <;> simp
  exact (join_apply b _ _ i j 0).trans (if_pos rfl)

/-- Channel 1 starts at zero. -/
theorem blank_apply (i j : Fin 32) : blank l (ix3 b i j) = 0#32 := by
  unfold blank
  refine Eq.trans (shapeCast_apply _ _ _ (ix4 b i j (0 : Fin 1)) ?_) ?_
  · rewrite [Shape.rowMajor_val_three, Shape.rowMajor_val_four]
    show ((b.val * 32 + i.val) * 32 + j.val) * 1 + 0 = (b.val * 32 + i.val) * 32 + j.val
    omega
  refine Eq.trans (extractStridedSlice_apply _ _ _ _ (ix4 b i j (1 : Fin 2)) ?_) ?_
  · intro x; fin_cases x <;> simp
  exact (join_apply b _ _ i j 1).trans rfl

/-- A cell holds object `k` when the layout does. -/
theorem isKind_apply (k : BitVec 32) (i j : Fin 32) :
    isKind l k (ix3 b i j) = IntOp.cmpi .eq (l (ix4 b i j 0)) k := by
  unfold isKind
  rw [show cmpi .eq (object l) (grid k) (ix3 b i j) = IntOp.cmpi .eq (object l (ix3 b i j)) (grid k (ix3 b i j)) from rfl,
    object_apply, grid_apply]

/-- A cell's colour is its object's. -/
theorem colour_apply (i j : Fin 32) : colour l (ix3 b i j) = paint (l (ix4 b i j 0)) := by
  unfold colour paint
  simp only [select_apply, isKind_apply, grid_apply, blank_apply, select_eq]

/-- A direction laid over every cell. -/
theorem faces_apply (d : IVec S16384 32) (k : BitVec 32) (i j : Fin 32) :
    faces d k (ix3 b i j) = IntOp.cmpi .eq (d (ix1 b)) k := by
  unfold faces
  refine Eq.trans (broadcastInDim_apply _ _ _ _ (ix3 b (0 : Fin 1) (0 : Fin 1)) fun x => by fin_cases x <;> rfl) ?_
  refine Eq.trans (broadcastInDim_apply _ _ _ _ (ix1 b) fun x => by fin_cases x; rfl) ?_
  show IntOp.cmpi .eq (d (ix1 b)) (per k (ix1 b)) = _
  rw [per_apply]

/-- The two directions each acquired object is cleared in. -/
theorem swept_apply (h : Agent a b p) (i j : Fin 32) :
    swept l a (ix3 b i j) = tidy (l (ix4 b i j 0)) (dir p).val := by
  unfold swept sweep tidy
  simp only [select_apply, show ∀ (x y : IVec S16384x32x32 1) (k : S16384x32x32.Idx), andi x y k = IntOp.andi (x k) (y k)
    from fun _ _ _ => rfl, isKind_apply, faces_apply, heading_apply a b p h, grid_apply, object_apply, select_and,
    StableHlo.Predicate.cmpi_eq_iff]
  generalize dir p = d
  fin_cases d <;> simp
  all_goals split_ifs <;> simp_all

/-- The agent stands on object `k` when the layout holds it in the agent's cell. -/
theorem meets_apply (h : Agent a b p) (k : BitVec 32) :
    meets (here a) (isKind l k) (ix1 b) = IntOp.cmpi .eq (l (ix4 b (row p) (col p) 0)) k := by
  have hd : ∀ x : S16384x1024.Idx, reducesTo_S16384x1024_S16384_d1.drop x = ix1 b →
      ∃ c : Fin 1024, x = ix2 b c := fun x e => by
    have e0 := reducesTo_S16384x1024_S16384_d1.drop_apply_val_of_eq x 0 0
    rw [e] at e0
    refine ⟨x 1, funext fun y => ?_⟩
    match y with
    | ⟨0, _⟩ => exact Fin.ext e0.symm
    | ⟨1, _⟩ => rfl
  have hcast : ∀ (f : IVec S16384x32x32 1) (i j : Fin 32),
      shapeCast S16384x1024 f shapeCasts_S16384x32x32_S16384x1024 (ix2 b ⟨i.val * 32 + j.val, by omega⟩) = f (ix3 b i j) := by
    intro f i j
    refine shapeCast_apply _ _ _ _ ?_
    rewrite [Shape.rowMajor_val_three, Shape.rowMajor_val_two]
    show (b.val * 32 + i.val) * 32 + j.val = b.val * 1024 + (i.val * 32 + j.val)
    omega
  have hv : ∀ i j : Fin 32,
      andi (shapeCast S16384x1024 (here a) shapeCasts_S16384x32x32_S16384x1024)
        (shapeCast S16384x1024 (isKind l k) shapeCasts_S16384x32x32_S16384x1024) (ix2 b ⟨i.val * 32 + j.val, by omega⟩)
      = IntOp.andi (if i = row p ∧ j = col p then 1#1 else 0#1) (IntOp.cmpi .eq (l (ix4 b i j 0)) k) := by
    intro i j
    show IntOp.andi (shapeCast S16384x1024 (here a) shapeCasts_S16384x32x32_S16384x1024 _)
      (shapeCast S16384x1024 (isKind l k) shapeCasts_S16384x32x32_S16384x1024 _) = _
    rw [hcast, hcast, here_apply a b p h, isKind_apply]
  unfold meets
  rw [Host.reduce_eq_fold]
  show Finset.fold IntOp.ori 0#1 _ _ = _
  refine Eq.trans (fold_one IntOp.ori 0#1 (fun x => by simp [IntOp.ori]) _ _
    (ix2 b ⟨(row p).val * 32 + (col p).val, by omega⟩) ?_ ?_) ?_
  · refine Finset.mem_filter.2 ⟨Finset.mem_univ _, funext fun x => Fin.ext ?_⟩
    match x with
    | ⟨0, _⟩ => exact reducesTo_S16384x1024_S16384_d1.drop_apply_val_of_eq _ 0 0
  · intro x hx hne
    obtain ⟨c, rfl⟩ := hd x (Finset.mem_filter.1 hx).2
    have ec : c = ⟨(⟨c.val / 32, by omega⟩ : Fin 32).val * 32 + (⟨c.val % 32, by omega⟩ : Fin 32).val, by
      show c.val / 32 * 32 + c.val % 32 < 1024; omega⟩ := Fin.ext (by show c.val = c.val / 32 * 32 + c.val % 32; omega)
    rw [ec, hv, if_neg]
    · simp [IntOp.andi]
    · rintro ⟨e1, e2⟩
      refine hne (congrArg (ix2 b) (ec.trans (Fin.ext ?_)))
      show (⟨c.val / 32, _⟩ : Fin 32).val * 32 + (⟨c.val % 32, _⟩ : Fin 32).val = _
      rw [e1, e2]
  · rw [hv, if_pos ⟨rfl, rfl⟩]
    rcases BitVec.eq_zero_or_eq_one (IntOp.cmpi .eq (l (ix4 b (row p) (col p) 0)) k) with e | e <;> rw [e] <;> rfl

/-- The agent's colour is its cell's. -/
theorem agentColour_apply (h : Agent a b p) : agentColour l a (ix1 b) = paint (l (ix4 b (row p) (col p) 0)) := by
  unfold agentColour tint paint
  simp only [select_apply, meets_apply l a b p h, per_apply, select_eq]
  split_ifs <;> simp_all

/-- The agent's channels: 10, and its colour. -/
theorem agentPair_apply (h : Agent a b p) (ch : Fin 2) :
    agentPair (agentColour l a) (ix2 b ch) = if ch = 0 then 10#32 else paint (l (ix4 b (row p) (col p) 0)) := by
  unfold agentPair
  have h0 : broadcastInDim S16384x1 ![0] bcast_S16384_S16384x1_0 (per 10#32) (ix2 b (0 : Fin 1)) = 10#32 := rfl
  have h1 : broadcastInDim S16384x1 ![0] bcast_S16384_S16384x1_0 (agentColour l a) (ix2 b (0 : Fin 1))
      = paint (l (ix4 b (row p) (col p) 0)) :=
    Eq.trans (broadcastInDim_apply _ _ _ _ (ix1 b) fun x => by fin_cases x; rfl) (agentColour_apply l a b p h)
  rw [joinCols_apply, h0, h1]

/-- The cells' channels: the object left, and the colour. -/
theorem cells_apply (h : Agent a b p) (i j : Fin 32) (ch : Fin 2) :
    join (broadcastInDim S16384x32x32x1 ![0, 1, 2] bcast_S16384x32x32_S16384x32x32x1_0_1_2 (swept l a))
        (broadcastInDim S16384x32x32x1 ![0, 1, 2] bcast_S16384x32x32_S16384x32x32x1_0_1_2 (colour l)) (ix4 b i j ch)
      = if ch = 0 then tidy (l (ix4 b i j 0)) (dir p).val else paint (l (ix4 b i j 0)) := by
  have hb : ∀ f : IVec S16384x32x32 32,
      broadcastInDim S16384x32x32x1 ![0, 1, 2] bcast_S16384x32x32_S16384x32x32x1_0_1_2 f (ix4 b i j (0 : Fin 1)) = f (ix3 b i j) :=
    fun f => broadcastInDim_apply _ _ _ _ (ix3 b i j) fun x => by fin_cases x <;> rfl
  rw [join_apply, hb, hb, swept_apply l a b p h, colour_apply]

/-- The reference's result at a cell and channel is the cell's byte. -/
theorem refOut_apply (h : Agent a b p) (i j : Fin 32) (ch : Fin 2) :
    refOut l a (ix4 b i j ch) = byte (l (ix4 b i j 0)) (dir p).val (i = row p ∧ j = col p) ch := by
  have h1 : broadcastInDim S16384x32x32x2 ![0, 1, 2, 3] bcast_S16384x32x32x1_S16384x32x32x2_0_1_2_3
      (broadcastInDim S16384x32x32x1 ![0, 1, 2] bcast_S16384x32x32_S16384x32x32x1_0_1_2 (here a)) (ix4 b i j ch)
      = if i = row p ∧ j = col p then 1#1 else 0#1 := by
    refine Eq.trans (broadcastInDim_apply _ _ _ _ (ix4 b i j (0 : Fin 1)) fun x => by fin_cases x <;> rfl) ?_
    refine Eq.trans (broadcastInDim_apply _ _ _ _ (ix3 b i j) fun x => by fin_cases x <;> rfl) ?_
    exact here_apply a b p h i j
  have h2 : broadcastInDim S16384x32x32x2 ![0, 1, 2, 3] bcast_S16384x1x1x2_S16384x32x32x2_0_1_2_3
      (broadcastInDim S16384x1x1x2 ![0, 3] bcast_S16384x2_S16384x1x1x2_0_3 (agentPair (agentColour l a))) (ix4 b i j ch)
      = if ch = 0 then 10#32 else paint (l (ix4 b (row p) (col p) 0)) := by
    refine Eq.trans (broadcastInDim_apply _ _ _ _ (ix4 b (0 : Fin 1) (0 : Fin 1) ch) fun x => by fin_cases x <;> rfl) ?_
    refine Eq.trans (broadcastInDim_apply _ _ _ _ (ix2 b ch) fun x => by fin_cases x <;> rfl) ?_
    exact agentPair_apply l a b p h ch
  have h3 := cells_apply l a b p h i j ch
  unfold refOut place byte
  refine congrArg (BitVec.setWidth 8) ?_
  rw [select_apply, h1, h2, h3]
  by_cases hc : i = row p ∧ j = col p
  · rw [if_pos hc, if_pos hc, hc.1, hc.2]; rfl
  · rw [if_neg hc, if_neg hc]; rfl

end Cert.ReferenceIdeal.Stage

end
-- ==== Proof.Equation.lean ====
/-
  The two programs' results are one array: each holds, at every batch element's cell and channel, the cell's byte.
-/
module

public import proofs.«01_k».proof.Proof.KernelRun
public import proofs.«01_k».proof.Proof.KernelValue
public import proofs.«01_k».proof.Proof.RefRun
public import proofs.«01_k».proof.Proof.RefCell

@[expose] public section

noncomputable section

namespace Cert.Spot

open Idealize.ShloMosaic hiding ix0 ix1 ix2 ix3 ix4 ix5 eq_ix3 eq_ix4
open Idealize.ShloMosaic.TcCoe Idealize.ShloMosaic.ValueIdx Cert.ReferenceIdeal.Stage

/-- A cell is the agent's by its number exactly when it is by its row and column. -/
theorem here_iff (p : Fin 4096) (i j : Fin 32) : i.val * 32 + j.val = p.val / 4 ↔ i = row p ∧ j = col p := by
  have hj := j.isLt
  rw [Fin.ext_iff, Fin.ext_iff]
  show _ ↔ i.val = p.val / 128 ∧ j.val = p.val / 4 % 32
  omega

variable {F : FTy → Type} [FloatOps F]

/-- Under one agent per batch element the kernel program's result array is the reference's of the same arguments. -/
theorem results_agree (m : (ℓ : Loc Cert.KernelIdeal.nD Cert.KernelIdeal.τ Cert.KernelIdeal.sig) → Buf (Elt F) ℓ)
    (ρ : Dev Cert.KernelIdeal.nD → PrngReg) (c : Dev Cert.KernelIdeal.nD)
    (h : Cert.Pre_one_agent.fn (F := F) (Cert.KernelIdeal.Value.layout m c) (Cert.KernelIdeal.Value.mask m c) = fun _ => 1#1) :
    (Cert.KernelIdeal.Gen.W5 m ρ c (Proc.devRef .tc Cert.KernelIdeal.main_v9) : IVec ⟨4, ![16384, 32, 32, 2]⟩ 8)
      = refOut (Cert.KernelIdeal.Value.layout m c) (Cert.KernelIdeal.Value.mask m c) := by
  funext k
  obtain ⟨b, i, j, ch, rfl⟩ : ∃ (b : Fin 16384) (i j : Fin 32) (ch : Fin 2), k = ix4 b i j ch := ⟨k 0, k 1, k 2, k 3, eq_ix4 k⟩
  obtain ⟨p, hp⟩ := exists_agent _ _ h b
  refine (Cert.KernelIdeal.Value.result_apply m ρ c b p hp i j ch).trans ?_
  refine Eq.trans ?_ (refOut_apply _ _ b p hp i j ch).symm
  simp only [here_iff]
  rfl

end Cert.Spot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_agent
public import proofs.«01_k».proof.Proof.Equation
public import Idealize.ShloMosaic.Adequacy
public import Idealize.ShloMosaic.Init

@[expose] public section

noncomputable section

namespace Cert.Proof

open Idealize.ShloMosaic Idealize.SL.Sem

/-- From memories with the same arguments, one agent to each batch element, the kernel and the reference both end with
    the same result array, their arguments unchanged. -/
theorem algebraic : Cert.algebraic_KernelIdeal_ReferenceIdeal_pre_one_agent := by
  intro m ρ m' ρ' hpre hagree
  refine ⟨fun c => Cert.KernelIdeal.Gen.W5 m ρ c (Proc.devRef .tc Cert.KernelIdeal.main_v9), ?_, ?_⟩
  · exact Cert.KernelIdeal.Value.run (F := Ideal) m ρ
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.Spot.results_agree m ρ c (hpre c)).symm

/-- All the claims: the frames first, then the idealization's, then the equality of the results. -/
theorem claim : Cert.Claim := ⟨Cert.Kernel.Gen.facts, Cert.KernelIdeal.Gen.facts, Cert.ReferenceIdeal.Gen.facts, Cert.Pre_one_agent.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Value.frame m ρ,
  fun m ρ _ => Cert.ReferenceIdeal.Value.frame m ρ,
  trivial,
  algebraic⟩

end Cert.Proof

end
